-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_arg1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S65536x64 : Shape := ⟨2, ![65536, 64]⟩
abbrev S4x64x1 : Shape := ⟨3, ![4, 64, 1]⟩
abbrev S4x64 : Shape := ⟨2, ![4, 64]⟩
abbrev S_ : Shape := ⟨0, ![]⟩

class Facts : Prop where
  bcast_S_S4x64 : S_.BroadcastsInDim S4x64 (![] : Fin 0 → Fin S4x64.rank)
  reducesTo_S4x64_S_d0_1 : S4x64.ReducesTo [0, 1] S_
  h_S_ : 0 < S_.numel

variable [Facts]

def fn {F : FTy → Type} [FloatOps F] (main_arg0 : FVec F S65536x64 .f32) (main_arg1 : FVec F S4x64x1 .f32) (main_arg2 : IVec S4x64 32) : IVec S_ 1 :=
  let main_c : IVec S_ 32 := constantI S_ 32 0#32
  let main_v0 : IVec S4x64 32 := broadcastInDim S4x64 ![] bcast_S_S4x64 main_c
  let main_v1 : IVec S4x64 1 := cmpi .sge main_arg2 main_v0
  let main_c_0 : IVec S_ 32 := constantI S_ 32 64#32
  let main_v2 : IVec S4x64 32 := broadcastInDim S4x64 ![] bcast_S_S4x64 main_c_0
  let main_v3 : IVec S4x64 1 := cmpi .slt main_arg2 main_v2
  let main_v4 : IVec S4x64 1 := andi main_v1 main_v3
  let main_c_1 : IVec S_ 1 := constantI S_ 1 1#1
  let main_v5 : IVec S_ 1 := (fun x v => Host.reduce IntOp.andi x v reducesTo_S4x64_S_d0_1 h_S_) main_v4 main_c_1
  main_v5
-- ==== Kernel.lean ====
abbrev S65536x64 : Shape := ⟨2, ![65536, 64]⟩
abbrev S4x64x1 : Shape := ⟨3, ![4, 64, 1]⟩
abbrev S4x64 : Shape := ⟨2, ![4, 64]⟩
abbrev S64x65536 : Shape := ⟨2, ![64, 65536]⟩
abbrev S256x65536 : Shape := ⟨2, ![256, 65536]⟩
abbrev S_ : Shape := ⟨0, ![]⟩
abbrev S16 : Shape := ⟨1, ![16]⟩
abbrev S1x16 : Shape := ⟨2, ![1, 16]⟩
abbrev S1x65536 : Shape := ⟨2, ![1, 65536]⟩
abbrev S4x64x65536 : Shape := ⟨3, ![4, 64, 65536]⟩
abbrev S4x65536x64 : Shape := ⟨3, ![4, 65536, 64]⟩

abbrev nBuf : Table → Nat
  | .hbm => 7
  | .local .scVector .vmem => 1
  | _ => 0

abbrev bufTy : (tb : Table) → Fin (nBuf tb) → BufTy
  | .hbm, ⟨0, _⟩ => ⟨S65536x64, .f32⟩
  | .hbm, ⟨1, _⟩ => ⟨S4x64x1, .f32⟩
  | .hbm, ⟨2, _⟩ => ⟨S4x64, .i32⟩
  | .hbm, ⟨3, _⟩ => ⟨S64x65536, .f32⟩
  | .hbm, ⟨4, _⟩ => ⟨S256x65536, .f32⟩
  | .hbm, ⟨5, _⟩ => ⟨S4x64x65536, .f32⟩
  | .hbm, ⟨6, _⟩ => ⟨S4x65536x64, .f32⟩
  | .local .scVector .vmem, ⟨0, _⟩ => ⟨S4x64, .i32⟩
  | _, _ => ⟨S65536x64, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v0_scv : Ref sig .scVector := ⟨.hbm, 3, rfl⟩
abbrev main_arg2_scv : Ref sig .scVector := ⟨.hbm, 2, rfl⟩
abbrev main_v1_scv : Ref sig .scVector := ⟨.hbm, 4, rfl⟩
abbrev cc0_scratch0 : Ref sig .scVector := ⟨.vmem, 0, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_86 : BitVec 32 := 8#32
  let v163 : BitVec 32 := Scalar.muli v1 c8_i32_86
  let c0_i32_87 : BitVec 32 := 0#32
  let v164 : BitVec 32 := Scalar.addi v163 c0_i32_87
  let c0_i32_119 : BitVec 32 := 0#32
  ![v164.toNat, 0]
def k0_off2 (v162 : BitVec 32) : Fin 2 → Nat :=
  let c0_i32_120 : BitVec 32 := 0#32
  ![v162.toNat, 0]

def k0_off3 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_91 : BitVec 32 := 8#32
  let v173 : BitVec 32 := Scalar.muli v1 c8_i32_91
  let c1_i32_92 : BitVec 32 := 1#32
  let v174 : BitVec 32 := Scalar.addi v173 c1_i32_92
  let c0_i32_121 : BitVec 32 := 0#32
  ![v174.toNat, 0]
def k0_off4 (v172 : BitVec 32) : Fin 2 → Nat :=
  let c0_i32_122 : BitVec 32 := 0#32
  ![v172.toNat, 0]

def k0_off5 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_96 : BitVec 32 := 8#32
  let v183 : BitVec 32 := Scalar.muli v1 c8_i32_96
  let c2_i32_97 : BitVec 32 := 2#32
  let v184 : BitVec 32 := Scalar.addi v183 c2_i32_97
  let c0_i32_123 : BitVec 32 := 0#32
  ![v184.toNat, 0]
def k0_off6 (v182 : BitVec 32) : Fin 2 → Nat :=
  let c0_i32_124 : BitVec 32 := 0#32
  ![v182.toNat, 0]

def k0_off7 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_101 : BitVec 32 := 8#32
  let v193 : BitVec 32 := Scalar.muli v1 c8_i32_101
  let c3_i32_102 : BitVec 32 := 3#32
  let v194 : BitVec 32 := Scalar.addi v193 c3_i32_102
  let c0_i32_125 : BitVec 32 := 0#32
  ![v194.toNat, 0]
def k0_off8 (v192 : BitVec 32) : Fin 2 → Nat :=
  let c0_i32_126 : BitVec 32 := 0#32
  ![v192.toNat, 0]

def k0_off9 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_105 : BitVec 32 := 8#32
  let v203 : BitVec 32 := Scalar.muli v1 c8_i32_105
  let c4_i32_106 : BitVec 32 := 4#32
  let v204 : BitVec 32 := Scalar.addi v203 c4_i32_106
  let c0_i32_127 : BitVec 32 := 0#32
  ![v204.toNat, 0]
def k0_off10 (v202 : BitVec 32) : Fin 2 → Nat :=
  let c0_i32_128 : BitVec 32 := 0#32
  ![v202.toNat, 0]

def k0_off11 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_109 : BitVec 32 := 8#32
  let v213 : BitVec 32 := Scalar.muli v1 c8_i32_109
  let c5_i32_110 : BitVec 32 := 5#32
  let v214 : BitVec 32 := Scalar.addi v213 c5_i32_110
  let c0_i32_129 : BitVec 32 := 0#32
  ![v214.toNat, 0]
def k0_off12 (v212 : BitVec 32) : Fin 2 → Nat :=
  let c0_i32_130 : BitVec 32 := 0#32
  ![v212.toNat, 0]

def k0_off13 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_113 : BitVec 32 := 8#32
  let v223 : BitVec 32 := Scalar.muli v1 c8_i32_113
  let c6_i32_114 : BitVec 32 := 6#32
  let v224 : BitVec 32 := Scalar.addi v223 c6_i32_114
  let c0_i32_131 : BitVec 32 := 0#32
  ![v224.toNat, 0]
def k0_off14 (v222 : BitVec 32) : Fin 2 → Nat :=
  let c0_i32_132 : BitVec 32 := 0#32
  ![v222.toNat, 0]

def k0_off15 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_117 : BitVec 32 := 8#32
  let v233 : BitVec 32 := Scalar.muli v1 c8_i32_117
  let c7_i32_118 : BitVec 32 := 7#32
  let v234 : BitVec 32 := Scalar.addi v233 c7_i32_118
  let c0_i32_133 : BitVec 32 := 0#32
  ![v234.toNat, 0]
def k0_off16 (v232 : BitVec 32) : Fin 2 → Nat :=
  let c0_i32_134 : BitVec 32 := 0#32
  ![v232.toNat, 0]

def k0_chk8 (v232 : BitVec 32) : Prop :=
  (∀ a, (k0_off16 v232) a + S1x65536.size a ≤ S64x65536.size a)
theorem k0_off16_inb : ∀ (v232 : BitVec 32) (k0_hw8 : k0_chk8 v232), ∀ a, (k0_off16 v232) a + S1x65536.size a ≤ S64x65536.size a := fun v232 k0_hw8 => k0_hw8

def k0_off17 (i : grid0.Coords) (c0_i32_87 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_86 : BitVec 32 := 8#32
  let v163 : BitVec 32 := Scalar.muli v1 c8_i32_86
  let v164 : BitVec 32 := Scalar.addi v163 c0_i32_87
  let c0_i32_135 : BitVec 32 := 0#32
  ![v164.toNat, 0]
def k0_off18 (v162 : BitVec 32) : Fin 2 → Nat :=
  let c0_i32_136 : BitVec 32 := 0#32
  ![v162.toNat, 0]

def k0_chk1 (v162 : BitVec 32) : Prop :=
  (∀ a, (k0_off2 v162) a + S1x65536.size a ≤ S64x65536.size a) ∧
  (∀ a, (k0_off18 v162) a + S1x65536.size a ≤ S64x65536.size a)
theorem k0_off2_inb : ∀ (v162 : BitVec 32) (k0_hw1 : k0_chk1 v162), ∀ a, (k0_off2 v162) a + S1x65536.size a ≤ S64x65536.size a := fun v162 k0_hw1 => k0_hw1.1
theorem k0_off18_inb : ∀ (v162 : BitVec 32) (k0_hw1 : k0_chk1 v162), ∀ a, (k0_off18 v162) a + S1x65536.size a ≤ S64x65536.size a := fun v162 k0_hw1 => k0_hw1.2

def k0_off19 (v172 : BitVec 32) : Fin 2 → Nat :=
  let c0_i32_138 : BitVec 32 := 0#32
  ![v172.toNat, 0]

def k0_chk2 (v172 : BitVec 32) : Prop :=
  (∀ a, (k0_off4 v172) a + S1x65536.size a ≤ S64x65536.size a) ∧
  (∀ a, (k0_off19 v172) a + S1x65536.size a ≤ S64x65536.size a)
theorem k0_off4_inb : ∀ (v172 : BitVec 32) (k0_hw2 : k0_chk2 v172), ∀ a, (k0_off4 v172) a + S1x65536.size a ≤ S64x65536.size a := fun v172 k0_hw2 => k0_hw2.1
theorem k0_off19_inb : ∀ (v172 : BitVec 32) (k0_hw2 : k0_chk2 v172), ∀ a, (k0_off19 v172) a + S1x65536.size a ≤ S64x65536.size a := fun v172 k0_hw2 => k0_hw2.2

def k0_off20 (v182 : BitVec 32) : Fin 2 → Nat :=
  let c0_i32_140 : BitVec 32 := 0#32
  ![v182.toNat, 0]

def k0_chk3 (v182 : BitVec 32) : Prop :=
  (∀ a, (k0_off6 v182) a + S1x65536.size a ≤ S64x65536.size a) ∧
  (∀ a, (k0_off20 v182) a + S1x65536.size a ≤ S64x65536.size a)
theorem k0_off6_inb : ∀ (v182 : BitVec 32) (k0_hw3 : k0_chk3 v182), ∀ a, (k0_off6 v182) a + S1x65536.size a ≤ S64x65536.size a := fun v182 k0_hw3 => k0_hw3.1
theorem k0_off20_inb : ∀ (v182 : BitVec 32) (k0_hw3 : k0_chk3 v182), ∀ a, (k0_off20 v182) a + S1x65536.size a ≤ S64x65536.size a := fun v182 k0_hw3 => k0_hw3.2

def k0_off21 (v192 : BitVec 32) : Fin 2 → Nat :=
  let c0_i32_142 : BitVec 32 := 0#32
  ![v192.toNat, 0]

def k0_chk4 (v192 : BitVec 32) : Prop :=
  (∀ a, (k0_off8 v192) a + S1x65536.size a ≤ S64x65536.size a) ∧
  (∀ a, (k0_off21 v192) a + S1x65536.size a ≤ S64x65536.size a)
theorem k0_off8_inb : ∀ (v192 : BitVec 32) (k0_hw4 : k0_chk4 v192), ∀ a, (k0_off8 v192) a + S1x65536.size a ≤ S64x65536.size a := fun v192 k0_hw4 => k0_hw4.1
theorem k0_off21_inb : ∀ (v192 : BitVec 32) (k0_hw4 : k0_chk4 v192), ∀ a, (k0_off21 v192) a + S1x65536.size a ≤ S64x65536.size a := fun v192 k0_hw4 => k0_hw4.2

def k0_off22 (v202 : BitVec 32) : Fin 2 → Nat :=
  let c0_i32_144 : BitVec 32 := 0#32
  ![v202.toNat, 0]

def k0_chk5 (v202 : BitVec 32) : Prop :=
  (∀ a, (k0_off10 v202) a + S1x65536.size a ≤ S64x65536.size a) ∧
  (∀ a, (k0_off22 v202) a + S1x65536.size a ≤ S64x65536.size a)
theorem k0_off10_inb : ∀ (v202 : BitVec 32) (k0_hw5 : k0_chk5 v202), ∀ a, (k0_off10 v202) a + S1x65536.size a ≤ S64x65536.size a := fun v202 k0_hw5 => k0_hw5.1
theorem k0_off22_inb : ∀ (v202 : BitVec 32) (k0_hw5 : k0_chk5 v202), ∀ a, (k0_off22 v202) a + S1x65536.size a ≤ S64x65536.size a := fun v202 k0_hw5 => k0_hw5.2

def k0_off23 (v212 : BitVec 32) : Fin 2 → Nat :=
  let c0_i32_146 : BitVec 32 := 0#32
  ![v212.toNat, 0]

def k0_chk6 (v212 : BitVec 32) : Prop :=
  (∀ a, (k0_off12 v212) a + S1x65536.size a ≤ S64x65536.size a) ∧
  (∀ a, (k0_off23 v212) a + S1x65536.size a ≤ S64x65536.size a)
theorem k0_off12_inb : ∀ (v212 : BitVec 32) (k0_hw6 : k0_chk6 v212), ∀ a, (k0_off12 v212) a + S1x65536.size a ≤ S64x65536.size a := fun v212 k0_hw6 => k0_hw6.1
theorem k0_off23_inb : ∀ (v212 : BitVec 32) (k0_hw6 : k0_chk6 v212), ∀ a, (k0_off23 v212) a + S1x65536.size a ≤ S64x65536.size a := fun v212 k0_hw6 => k0_hw6.2

def k0_off24 (v222 : BitVec 32) : Fin 2 → Nat :=
  let c0_i32_148 : BitVec 32 := 0#32
  ![v222.toNat, 0]

def k0_chk7 (v222 : BitVec 32) : Prop :=
  (∀ a, (k0_off14 v222) a + S1x65536.size a ≤ S64x65536.size a) ∧
  (∀ a, (k0_off24 v222) a + S1x65536.size a ≤ S64x65536.size a)
theorem k0_off14_inb : ∀ (v222 : BitVec 32) (k0_hw7 : k0_chk7 v222), ∀ a, (k0_off14 v222) a + S1x65536.size a ≤ S64x65536.size a := fun v222 k0_hw7 => k0_hw7.1
theorem k0_off24_inb : ∀ (v222 : BitVec 32) (k0_hw7 : k0_chk7 v222), ∀ a, (k0_off24 v222) a + S1x65536.size a ≤ S64x65536.size a := fun v222 k0_hw7 => k0_hw7.2

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S65536x64 : Shape := ⟨2, ![65536, 64]⟩
abbrev S4x64x1 : Shape := ⟨3, ![4, 64, 1]⟩
abbrev S4x64 : Shape := ⟨2, ![4, 64]⟩
abbrev S1x64 : Shape := ⟨2, ![1, 64]⟩
abbrev S64 : Shape := ⟨1, ![64]⟩
abbrev S_ : Shape := ⟨0, ![]⟩
abbrev S64x1 : Shape := ⟨2, ![64, 1]⟩
abbrev S1 : Shape := ⟨1, ![1]⟩
abbrev S1x1 : Shape := ⟨2, ![1, 1]⟩
abbrev S1x65536x64 : Shape := ⟨3, ![1, 65536, 64]⟩
abbrev S4x65536x64 : Shape := ⟨3, ![4, 65536, 64]⟩

abbrev nBuf : Space → Nat
  | .hbm => 108
  | .vmem => 0
  | .smem => 0
  | _ => 0

abbrev bufTy : (tb : Table) → Fin (tcTables nBuf tb) → BufTy
  | .hbm, ⟨0, _⟩ => ⟨S65536x64, .f32⟩
  | .hbm, ⟨1, _⟩ => ⟨S4x64x1, .f32⟩
  | .hbm, ⟨2, _⟩ => ⟨S4x64, .i32⟩
  | .hbm, ⟨3, _⟩ => ⟨S1x64, .i32⟩
  | .hbm, ⟨4, _⟩ => ⟨S64, .i32⟩
  | .hbm, ⟨5, _⟩ => ⟨S_, .i32⟩
  | .hbm, ⟨6, _⟩ => ⟨S64, .i32⟩
  | .hbm, ⟨7, _⟩ => ⟨S64, .i1⟩
  | .hbm, ⟨8, _⟩ => ⟨S_, .i32⟩
  | .hbm, ⟨9, _⟩ => ⟨S64, .i32⟩
  | .hbm, ⟨10, _⟩ => ⟨S64, .i32⟩
  | .hbm, ⟨11, _⟩ => ⟨S64, .i32⟩
  | .hbm, ⟨12, _⟩ => ⟨S64x1, .i32⟩
  | .hbm, ⟨13, _⟩ => ⟨S1, .i32⟩
  | .hbm, ⟨14, _⟩ => ⟨S_, .i32⟩
  | .hbm, ⟨15, _⟩ => ⟨S64x1, .i32⟩
  | .hbm, ⟨16, _⟩ => ⟨S64x1, .i1⟩
  | .hbm, ⟨17, _⟩ => ⟨S1x1, .i32⟩
  | .hbm, ⟨18, _⟩ => ⟨S64x1, .i32⟩
  | .hbm, ⟨19, _⟩ => ⟨S64x1, .i1⟩
  | .hbm, ⟨20, _⟩ => ⟨S64x1, .i1⟩
  | .hbm, ⟨21, _⟩ => ⟨S_, .i1⟩
  | .hbm, ⟨22, _⟩ => ⟨S64, .i1⟩
  | .hbm, ⟨23, _⟩ => ⟨S65536x64, .f32⟩
  | .hbm, ⟨24, _⟩ => ⟨S65536x64, .i1⟩
  | .hbm, ⟨25, _⟩ => ⟨S_, .f32⟩
  | .hbm, ⟨26, _⟩ => ⟨S65536x64, .f32⟩
  | .hbm, ⟨27, _⟩ => ⟨S65536x64, .f32⟩
  | .hbm, ⟨28, _⟩ => ⟨S1x64, .i32⟩
  | .hbm, ⟨29, _⟩ => ⟨S64, .i32⟩
  | .hbm, ⟨30, _⟩ => ⟨S_, .i32⟩
  | .hbm, ⟨31, _⟩ => ⟨S64, .i32⟩
  | .hbm, ⟨32, _⟩ => ⟨S64, .i1⟩
  | .hbm, ⟨33, _⟩ => ⟨S_, .i32⟩
  | .hbm, ⟨34, _⟩ => ⟨S64, .i32⟩
  | .hbm, ⟨35, _⟩ => ⟨S64, .i32⟩
  | .hbm, ⟨36, _⟩ => ⟨S64, .i32⟩
  | .hbm, ⟨37, _⟩ => ⟨S64x1, .i32⟩
  | .hbm, ⟨38, _⟩ => ⟨S1, .i32⟩
  | .hbm, ⟨39, _⟩ => ⟨S_, .i32⟩
  | .hbm, ⟨40, _⟩ => ⟨S64x1, .i32⟩
  | .hbm, ⟨41, _⟩ => ⟨S64x1, .i1⟩
  | .hbm, ⟨42, _⟩ => ⟨S1x1, .i32⟩
  | .hbm, ⟨43, _⟩ => ⟨S64x1, .i32⟩
  | .hbm, ⟨44, _⟩ => ⟨S64x1, .i1⟩
  | .hbm, ⟨45, _⟩ => ⟨S64x1, .i1⟩
  | .hbm, ⟨46, _⟩ => ⟨S_, .i1⟩
  | .hbm, ⟨47, _⟩ => ⟨S64, .i1⟩
  | .hbm, ⟨48, _⟩ => ⟨S65536x64, .f32⟩
  | .hbm, ⟨49, _⟩ => ⟨S65536x64, .i1⟩
  | .hbm, ⟨50, _⟩ => ⟨S_, .f32⟩
  | .hbm, ⟨51, _⟩ => ⟨S65536x64, .f32⟩
  | .hbm, ⟨52, _⟩ => ⟨S65536x64, .f32⟩
  | .hbm, ⟨53, _⟩ => ⟨S1x64, .i32⟩
  | .hbm, ⟨54, _⟩ => ⟨S64, .i32⟩
  | .hbm, ⟨55, _⟩ => ⟨S_, .i32⟩
  | .hbm, ⟨56, _⟩ => ⟨S64, .i32⟩
  | .hbm, ⟨57, _⟩ => ⟨S64, .i1⟩
  | .hbm, ⟨58, _⟩ => ⟨S_, .i32⟩
  | .hbm, ⟨59, _⟩ => ⟨S64, .i32⟩
  | .hbm, ⟨60, _⟩ => ⟨S64, .i32⟩
  | .hbm, ⟨61, _⟩ => ⟨S64, .i32⟩
  | .hbm, ⟨62, _⟩ => ⟨S64x1, .i32⟩
  | .hbm, ⟨63, _⟩ => ⟨S1, .i32⟩
  | .hbm, ⟨64, _⟩ => ⟨S_, .i32⟩
  | .hbm, ⟨65, _⟩ => ⟨S64x1, .i32⟩
  | .hbm, ⟨66, _⟩ => ⟨S64x1, .i1⟩
  | .hbm, ⟨67, _⟩ => ⟨S1x1, .i32⟩
  | .hbm, ⟨68, _⟩ => ⟨S64x1, .i32⟩
  | .hbm, ⟨69, _⟩ => ⟨S64x1, .i1⟩
  | .hbm, ⟨70, _⟩ => ⟨S64x1, .i1⟩
  | .hbm, ⟨71, _⟩ => ⟨S_, .i1⟩
  | .hbm, ⟨72, _⟩ => ⟨S64, .i1⟩
  | .hbm, ⟨73, _⟩ => ⟨S65536x64, .f32⟩
  | .hbm, ⟨74, _⟩ => ⟨S65536x64, .i1⟩
  | .hbm, ⟨75, _⟩ => ⟨S_, .f32⟩
  | .hbm, ⟨76, _⟩ => ⟨S65536x64, .f32⟩
  | .hbm, ⟨77, _⟩ => ⟨S65536x64, .f32⟩
  | .hbm, ⟨78, _⟩ => ⟨S1x64, .i32⟩
  | .hbm, ⟨79, _⟩ => ⟨S64, .i32⟩
  | .hbm, ⟨80, _⟩ => ⟨S_, .i32⟩
  | .hbm, ⟨81, _⟩ => ⟨S64, .i32⟩
  | .hbm, ⟨82, _⟩ => ⟨S64, .i1⟩
  | .hbm, ⟨83, _⟩ => ⟨S_, .i32⟩
  | .hbm, ⟨84, _⟩ => ⟨S64, .i32⟩
  | .hbm, ⟨85, _⟩ => ⟨S64, .i32⟩
  | .hbm, ⟨86, _⟩ => ⟨S64, .i32⟩
  | .hbm, ⟨87, _⟩ => ⟨S64x1, .i32⟩
  | .hbm, ⟨88, _⟩ => ⟨S1, .i32⟩
  | .hbm, ⟨89, _⟩ => ⟨S_, .i32⟩
  | .hbm, ⟨90, _⟩ => ⟨S64x1, .i32⟩
  | .hbm, ⟨91, _⟩ => ⟨S64x1, .i1⟩
  | .hbm, ⟨92, _⟩ => ⟨S1x1, .i32⟩
  | .hbm, ⟨93, _⟩ => ⟨S64x1, .i32⟩
  | .hbm, ⟨94, _⟩ => ⟨S64x1, .i1⟩
  | .hbm, ⟨95, _⟩ => ⟨S64x1, .i1⟩
  | .hbm, ⟨96, _⟩ => ⟨S_, .i1⟩
  | .hbm, ⟨97, _⟩ => ⟨S64, .i1⟩
  | .hbm, ⟨98, _⟩ => ⟨S65536x64, .f32⟩
  | .hbm, ⟨99, _⟩ => ⟨S65536x64, .i1⟩
  | .hbm, ⟨100, _⟩ => ⟨S_, .f32⟩
  | .hbm, ⟨101, _⟩ => ⟨S65536x64, .f32⟩
  | .hbm, ⟨102, _⟩ => ⟨S65536x64, .f32⟩
  | .hbm, ⟨103, _⟩ => ⟨S1x65536x64, .f32⟩
  | .hbm, ⟨104, _⟩ => ⟨S1x65536x64, .f32⟩
  | .hbm, ⟨105, _⟩ => ⟨S1x65536x64, .f32⟩
  | .hbm, ⟨106, _⟩ => ⟨S1x65536x64, .f32⟩
  | .hbm, ⟨107, _⟩ => ⟨S4x65536x64, .f32⟩
  | _, _ => ⟨S65536x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_call1_c : Ref sig .tc := ⟨.hbm, 30, rfl⟩
abbrev main_call1_v0 : Ref sig .tc := ⟨.hbm, 31, rfl⟩
abbrev main_call1_v1 : Ref sig .tc := ⟨.hbm, 32, rfl⟩
abbrev main_call1_c_0 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_c_1 : Ref sig .tc := ⟨.hbm, 38, rfl⟩
abbrev main_call1_c_2 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_c_3 : Ref sig .tc := ⟨.hbm, 46, rfl⟩
abbrev main_call1_v12 : Ref sig .tc := ⟨.hbm, 47, rfl⟩
abbrev main_call1_v13 : Ref sig .tc := ⟨.hbm, 48, rfl⟩
abbrev main_call1_v14 : Ref sig .tc := ⟨.hbm, 49, rfl⟩
abbrev main_call1_cst : Ref sig .tc := ⟨.hbm, 50, rfl⟩
abbrev main_call1_v15 : Ref sig .tc := ⟨.hbm, 51, rfl⟩
abbrev main_v5 : Ref sig .tc := ⟨.hbm, 52, rfl⟩
abbrev main_v6 : Ref sig .tc := ⟨.hbm, 53, rfl⟩
abbrev main_v7 : Ref sig .tc := ⟨.hbm, 54, rfl⟩
abbrev main_call2_c : Ref sig .tc := ⟨.hbm, 55, rfl⟩
abbrev main_call2_v0 : Ref sig .tc := ⟨.hbm, 56, rfl⟩
abbrev main_call2_v1 : Ref sig .tc := ⟨.hbm, 57, rfl⟩
abbrev main_call2_c_0 : Ref sig .tc := ⟨.hbm, 58, rfl⟩
abbrev main_call2_v2 : Ref sig .tc := ⟨.hbm, 59, rfl⟩
abbrev main_call2_v3 : Ref sig .tc := ⟨.hbm, 60, rfl⟩
abbrev main_call2_v4 : Ref sig .tc := ⟨.hbm, 61, rfl⟩
abbrev main_call2_v5 : Ref sig .tc := ⟨.hbm, 62, rfl⟩
abbrev main_call2_c_1 : Ref sig .tc := ⟨.hbm, 63, rfl⟩
abbrev main_call2_c_2 : Ref sig .tc := ⟨.hbm, 64, rfl⟩
abbrev main_call2_v6 : Ref sig .tc := ⟨.hbm, 65, rfl⟩
abbrev main_call2_v7 : Ref sig .tc := ⟨.hbm, 66, rfl⟩
abbrev main_call2_v8 : Ref sig .tc := ⟨.hbm, 67, rfl⟩
abbrev main_call2_v9 : Ref sig .tc := ⟨.hbm, 68, rfl⟩
abbrev main_call2_v10 : Ref sig .tc := ⟨.hbm, 69, rfl⟩
abbrev main_call2_v11 : Ref sig .tc := ⟨.hbm, 70, rfl⟩
abbrev main_call2_c_3 : Ref sig .tc := ⟨.hbm, 71, rfl⟩
abbrev main_call2_v12 : Ref sig .tc := ⟨.hbm, 72, rfl⟩
abbrev main_call2_v13 : Ref sig .tc := ⟨.hbm, 73, rfl⟩
abbrev main_call2_v14 : Ref sig .tc := ⟨.hbm, 74, rfl⟩
abbrev main_call2_cst : Ref sig .tc := ⟨.hbm, 75, rfl⟩
abbrev main_call2_v15 : Ref sig .tc := ⟨.hbm, 76, rfl⟩
abbrev main_v8 : Ref sig .tc := ⟨.hbm, 77, rfl⟩
abbrev main_v9 : Ref sig .tc := ⟨.hbm, 78, rfl⟩
abbrev main_v10 : Ref sig .tc := ⟨.hbm, 79, rfl⟩
abbrev main_call3_c : Ref sig .tc := ⟨.hbm, 80, rfl⟩
abbrev main_call3_v0 : Ref sig .tc := ⟨.hbm, 81, rfl⟩
abbrev main_call3_v1 : Ref sig .tc := ⟨.hbm, 82, rfl⟩
abbrev main_call3_c_0 : Ref sig .tc := ⟨.hbm, 83, rfl⟩
abbrev main_call3_v2 : Ref sig .tc := ⟨.hbm, 84, rfl⟩
abbrev main_call3_v3 : Ref sig .tc := ⟨.hbm, 85, rfl⟩
abbrev main_call3_v4 : Ref sig .tc := ⟨.hbm, 86, rfl⟩
abbrev main_call3_v5 : Ref sig .tc := ⟨.hbm, 87, rfl⟩
abbrev main_call3_c_1 : Ref sig .tc := ⟨.hbm, 88, rfl⟩
abbrev main_call3_c_2 : Ref sig .tc := ⟨.hbm, 89, rfl⟩
abbrev main_call3_v6 : Ref sig .tc := ⟨.hbm, 90, rfl⟩
abbrev main_call3_v7 : Ref sig .tc := ⟨.hbm, 91, rfl⟩
abbrev main_call3_v8 : Ref sig .tc := ⟨.hbm, 92, rfl⟩
abbrev main_call3_v9 : Ref sig .tc := ⟨.hbm, 93, rfl⟩
abbrev main_call3_v10 : Ref sig .tc := ⟨.hbm, 94, rfl⟩
abbrev main_call3_v11 : Ref sig .tc := ⟨.hbm, 95, rfl⟩
abbrev main_call3_c_3 : Ref sig .tc := ⟨.hbm, 96, rfl⟩
abbrev main_call3_v12 : Ref sig .tc := ⟨.hbm, 97, rfl⟩
abbrev main_call3_v13 : Ref sig .tc := ⟨.hbm, 98, rfl⟩
abbrev main_call3_v14 : Ref sig .tc := ⟨.hbm, 99, rfl⟩
abbrev main_call3_cst : Ref sig .tc := ⟨.hbm, 100, rfl⟩
abbrev main_call3_v15 : Ref sig .tc := ⟨.hbm, 101, rfl⟩
abbrev main_v11 : Ref sig .tc := ⟨.hbm, 102, rfl⟩
abbrev main_v12 : Ref sig .tc := ⟨.hbm, 103, rfl⟩
abbrev main_v13 : Ref sig .tc := ⟨.hbm, 104, rfl⟩
abbrev main_v14 : Ref sig .tc := ⟨.hbm, 105, rfl⟩
abbrev main_v15 : Ref sig .tc := ⟨.hbm, 106, rfl⟩
abbrev main_v16 : Ref sig .tc := ⟨.hbm, 107, rfl⟩

abbrev nD : Nat := 1
abbrev τ : Topo := Topo.v7x

variable {F : FTy → Type} [FloatOps F]
-- ==== Proof.Words.lean ====
/-
  The words a task computes before it copies. A task holds the 4 by 64 row numbers in its scratch, loads them as sixteen
  windows of sixteen lanes and keeps, through sixteen selects, the window its own number names (`chain_eq`). Its eight
  row numbers are lanes of that window: each is the sum of the window with every other lane zeroed (`pick`).
-/
module

public import proofs.«01_k».proof.Defs
public import Idealize.ShloMosaic.Lib.Tactic
public import Idealize.ShloMosaic.Lib.Pipeline.Value
public import proofs.«01_k».proof.Proof.Gen.KernelIdeal
public import proofs.«01_k».proof.Proof.Gen.KernelIdeal.Skeleton

@[expose] public section

noncomputable section

namespace Cert.Proof.Gather

open Cert.KernelIdeal Cert.KernelIdeal.Gen
open Idealize.ShloMosaic

variable {F : FTy → Type}

/-- Row `r`, column `c` of the row numbers. -/
def at4x64 (r : Fin 4) (c : Fin 64) : S4x64.Idx := fun | 0 => r | 1 => c

/-- Place `r` of the row numbers in row-major order. -/
def flat (r : Fin 256) : S4x64.Idx := at4x64 ⟨r.val / 64, by omega⟩ ⟨r.val % 64, by omega⟩

/-- Lane `n` of a window. -/
def lane (n : Fin 16) : S16.Idx := fun | 0 => n

/-- Window `c` of row `r`, as a load gives it. -/
def rd (mk : S4x64.Idx → BitVec 32) (r c : Fin 4) : Vec F S1x16 .i32 :=
  fun x => mk (at4x64 r ⟨16 * c.val + (x 1).val, by have h : (x 1).val < 16 := (x 1).isLt; omega⟩)

/-- One of the sixteen selects. -/
def sel (a b r c : BitVec 32) (l : Vec F S1x16 .i32) (y : Vec F S16 .i32) : Vec F S16 .i32 :=
  Scalar.select (Scalar.andi (Scalar.cmpi .eq a r) (Scalar.cmpi .eq b c)) (shapeCast S16 l shapeCasts_S1x16_S16 : Vec F S16 .i32) y

/-- The sixteen selects, the first innermost. -/
def chain (a b : BitVec 32) (l : Fin 4 → Fin 4 → Vec F S1x16 .i32) : Vec F S16 .i32 :=
  sel a b 3#32 3#32 (l 3 3) <| sel a b 3#32 2#32 (l 3 2) <| sel a b 3#32 1#32 (l 3 1) <| sel a b 3#32 0#32 (l 3 0) <|
  sel a b 2#32 3#32 (l 2 3) <| sel a b 2#32 2#32 (l 2 2) <| sel a b 2#32 1#32 (l 2 1) <| sel a b 2#32 0#32 (l 2 0) <|
  sel a b 1#32 3#32 (l 1 3) <| sel a b 1#32 2#32 (l 1 2) <| sel a b 1#32 1#32 (l 1 1) <| sel a b 1#32 0#32 (l 1 0) <|
  sel a b 0#32 3#32 (l 0 3) <| sel a b 0#32 2#32 (l 0 2) <| sel a b 0#32 1#32 (l 0 1) <| sel a b 0#32 0#32 (l 0 0) <|
  (broadcast S16 0#32 : IVec S16 32)

theorem sel_self (a b : BitVec 32) (l : Vec F S1x16 .i32) (y : Vec F S16 .i32) :
    sel a b a b l y = (shapeCast S16 l shapeCasts_S1x16_S16 : Vec F S16 .i32) := by
  have h : Scalar.andi (Scalar.cmpi .eq a a) (Scalar.cmpi .eq b b) = 1#1 := by
    simp [Scalar.andi, Scalar.cmpi, IntOp.andi, IntOp.cmpi]
  exact if_pos h

theorem sel_ne (a b r c : BitVec 32) (h : a ≠ r ∨ b ≠ c) (l : Vec F S1x16 .i32) (y : Vec F S16 .i32) : sel a b r c l y = y := by
  have h : ¬ Scalar.andi (Scalar.cmpi .eq a r) (Scalar.cmpi .eq b c) = 1#1 := by
    have e : (a == r) = false ∨ (b == c) = false := h.imp (fun h => by simpa using h) (fun h => by simpa using h)
    show ¬ (BitVec.ofBool (a == r) &&& BitVec.ofBool (b == c)) = 1#1
    generalize (a == r) = p at e ⊢
    generalize (b == c) = q at e ⊢
    revert p q; decide
  exact if_neg h

/-- The selects keep the window their two numbers name. -/
theorem chain_eq (a b : Fin 4) (l : Fin 4 → Fin 4 → Vec F S1x16 .i32) :
    chain (BitVec.ofNat 32 a.val) (BitVec.ofNat 32 b.val) l = (shapeCast S16 (l a b) shapeCasts_S1x16_S16 : Vec F S16 .i32) := by
  unfold chain
  fin_cases a <;> fin_cases b <;>
    simp (disch := decide) only [sel_ne, sel_self, Fin.zero_eta, Fin.mk_one, Fin.reduceFinMk, Fin.isValue, Fin.val_zero, Fin.val_one, Fin.val_two] <;>
    first | rfl | exact sel_self _ _ _ _

/-- A lane of a window. -/
theorem cast_rd (mk : S4x64.Idx → BitVec 32) (r c : Fin 4) (n : Fin 16) :
    (shapeCast S16 (rd (F := F) mk r c) shapeCasts_S1x16_S16 : Vec F S16 .i32) (lane n)
      = mk (at4x64 r ⟨16 * c.val + n.val, by omega⟩) := by
  rw [shapeCast_apply _ _ _ (fun | 0 => ⟨0, Nat.one_pos⟩ | 1 => n : S1x16.Idx)
    (by rw [Shape.rowMajor_val_two, Shape.rowMajor_val_one]; show 0 * 16 + n.val = n.val; omega)]
  rfl

/-- A sum over lanes of which one is not zero. -/
theorem fold_hot {n : Fin 16} {x : BitVec 32} : ∀ (l : List (Fin 16)) (_ : l.Nodup) (r : BitVec 32),
    l.foldl (fun r k => r + if k = n then x else 0#32) r = if n ∈ l then r + x else r
  | [], _, r => by simp
  | k :: l, hl, r => by
    rw [List.foldl_cons, fold_hot l (List.nodup_cons.mp hl).2]
    by_cases h : k = n
    · subst h; simp [(List.nodup_cons.mp hl).1]
    · have h' : n ≠ k := fun e => h e.symm
      simp [h, h']

/-- The last lane of a running sum is the sum of the lanes. -/
theorem scan_last (v : IVec S16 32) :
    extractAt ![15] (scan .sum v) inpos_S16_p15
      = [1, 2, 3, 4, 5, 6, 7, 8, 9, 10, 11, 12, 13, 14, 15].foldl (fun (r : BitVec 32) (k : Fin 16) => r + v (Shape.ofLane k)) (v (Shape.ofLane (0 : Fin 16))) := by
  have hf : ((List.finRange 16).filter fun k : Fin 16 => decide (0 < k.val ∧ k.val ≤ 15)) = [1, 2, 3, 4, 5, 6, 7, 8, 9, 10, 11, 12, 13, 14, 15] := by decide
  rw [← hf]; rfl

/-- The sum of a window with every lane but `n` zeroed is lane `n`. -/
theorem pick (w : IVec S16 32) (k : BitVec 32) (n : Fin 16) (hk : k = BitVec.ofNat 32 n.val) :
    extractAt ![15] (scan .sum (select (cmpi .eq (iota .scVector S16 32 [0] iota_S16_d0_w32_scVector) (broadcast S16 k)) w (broadcast S16 0#32))) inpos_S16_p15
      = w (lane n) := by
  subst hk
  have hs : ∀ k : Fin 16, select (cmpi .eq (iota .scVector S16 32 [0] iota_S16_d0_w32_scVector) (broadcast S16 (BitVec.ofNat 32 n.val))) w (broadcast S16 0#32)
      (Shape.ofLane k) = if k = n then w (lane n) else 0#32 := by
    intro k
    have hc : cmpi .eq (iota .scVector S16 32 [0] iota_S16_d0_w32_scVector) (broadcast S16 (BitVec.ofNat 32 n.val)) (Shape.ofLane k) = if k = n then 1#1 else 0#1 := by
      clear w; revert n k; decide +kernel
    show (if cmpi .eq (iota .scVector S16 32 [0] iota_S16_d0_w32_scVector) (broadcast S16 (BitVec.ofNat 32 n.val)) (Shape.ofLane k) = 1#1 then w (Shape.ofLane k) else 0#32) = _
    rw [hc]
    by_cases h : k = n
    · subst h
      rw [if_pos rfl, if_pos rfl, if_pos rfl]
      congr 1; funext a; match a with | 0 => rfl
    · rw [if_neg h, if_neg h, if_neg (by decide)]
  rw [scan_last, show (fun (r : BitVec 32) (k : Fin 16) => r + select (cmpi .eq (iota .scVector S16 32 [0] iota_S16_d0_w32_scVector)
      (broadcast S16 (BitVec.ofNat 32 n.val))) w (broadcast S16 0#32) (Shape.ofLane k)) = fun r k => r + if k = n then w (lane n) else 0#32 from
    funext fun r => funext fun k => congrArg (r + ·) (hs k), hs, fold_hot _ (by decide)]
  generalize w (lane n) = x
  clear hs w
  by_cases h : n = 0
  · subst h; rw [if_neg (by decide), if_pos rfl]
  · rw [if_pos (by revert n; decide), if_neg fun e => h e.symm]; exact BitVec.zero_add x

/-- The word a task picks: place `16 s + 8 c + j` of the row numbers, at the task of SparseCore `c` and subcore `s`. -/
theorem picked (mk : S4x64.Idx → BitVec 32) (c : Fin 2) (s : Fin 16) (j : Fin 8) (w : IVec S16 32) (k : BitVec 32)
    (hw : w = (shapeCast S16 (rd (F := F) mk ⟨(2 * s.val + c.val) / 8, by omega⟩ ⟨(2 * s.val + c.val) % 8 / 2, by omega⟩) shapeCasts_S1x16_S16 : Vec F S16 .i32))
    (hk : k = BitVec.ofNat 32 (8 * ((2 * s.val + c.val) % 2) + j.val)) :
    extractAt ![15] (scan .sum (select (cmpi .eq (iota .scVector S16 32 [0] iota_S16_d0_w32_scVector) (broadcast S16 k)) w (broadcast S16 0#32))) inpos_S16_p15
      = mk (flat ⟨16 * s.val + 8 * c.val + j.val, by omega⟩) := by
  rw [pick w k ⟨8 * ((2 * s.val + c.val) % 2) + j.val, by omega⟩ hk, hw, cast_rd]
  congr 1
  unfold flat
  congr 1 <;> refine Fin.ext ?_ <;> dsimp only <;> omega

end Cert.Proof.Gather
-- ==== Proof.Tile.lean ====
/-
  One task of the gather: its buffers, semaphores and rows, the words its parts compute, and what its copies bring back.
  A row of the result that a copy has landed in holds the row of the transposed matrix that the row number names
  (`landed_eq`).
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.Batch
public import Idealize.ShloMosaic.Lib.StableHlo.Run
public import Idealize.ShloMosaic.Lib.Pipeline.Kit
public import Idealize.ShloMosaic.Lib.Tactic
public import proofs.«01_k».proof.Proof.Words
public import proofs.«01_k».proof.Proof.Gen.KernelIdeal
public import proofs.«01_k».proof.Proof.Gen.KernelIdeal.Skeleton

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds library, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory and the buffers -/

variable (m : (ℓ : Loc nD τ sig) → Buf (Elt F) ℓ) (ρ : Dev nD → PrngReg)

/-- The coefficients' matrix, the row numbers, the matrix transposed, and the gathered rows. -/
abbrev aLoc (d : Dev nD) : Loc nD τ sig := (SparseCore.T d).loc main_arg0
abbrev kLoc (d : Dev nD) : Loc nD τ sig := (SparseCore.T d).loc main_arg2
abbrev tLoc (d : Dev nD) : Loc nD τ sig := (SparseCore.T d).loc main_v0
abbrev oLoc (d : Dev nD) : Loc nD τ sig := (SparseCore.T d).loc main_v1

local notation "tV" => (Memref.whole Cert.KernelIdeal.main_v0_scv : Memref Cert.KernelIdeal.sig Kind.scVector Space.hbm Cert.KernelIdeal.S64x65536 EltTy.f32)
local notation "kV" => (Memref.whole Cert.KernelIdeal.main_arg2_scv : Memref Cert.KernelIdeal.sig Kind.scVector Space.hbm Cert.KernelIdeal.S4x64 EltTy.i32)
local notation "oV" => (Memref.whole Cert.KernelIdeal.main_v1_scv : Memref Cert.KernelIdeal.sig Kind.scVector Space.hbm Cert.KernelIdeal.S256x65536 EltTy.f32)
local notation "sV" => (Memref.whole Cert.KernelIdeal.cc0_scratch0 : Memref Cert.KernelIdeal.sig Kind.scVector Space.vmem Cert.KernelIdeal.S4x64 EltTy.i32)

/-- The matrix transposed, as the host leaves it before the call. -/
def tr (d : Dev nD) : Buf (Elt F) (tLoc d) :=
  (transpose S64x65536 [1, 0] (m (aLoc d)) transposes_S65536x64_S64x65536_1_0 : (⟨S64x65536, .f32⟩ : BufTy).Contents (Elt F))

/-- Place `r` of the row numbers in row-major order. -/
def word (d : Dev nD) (r : Fin 256) : BitVec 32 := m (kLoc d) (flat r)

/-- Every row number names a row of the transposed matrix. -/
def PreOK : Prop := ∀ (d : Dev nD) (r : Fin 256), (word m d r).toNat < 64

/-- An element of the transposed matrix. -/
def at64 (v : Fin 64) (x : Fin 65536) : S64x65536.Idx := fun | 0 => v | 1 => x

/-- What the call leaves: row `r` is the transposed matrix's row that place `r` of the row numbers names. -/
def out (d : Dev nD) : Buf (Elt F) (oLoc d) :=
  fun x : S256x65536.Idx => tr m d (at64 ⟨(word m d (x 0)).toNat % 64, Nat.mod_lt _ (by decide)⟩ (x 1))

/-- Row `r` of the call's result. -/
def rowSet (r : Fin 256) : Finset S256x65536.Idx := Finset.univ.filter fun x => (x 0).val = r.val

abbrev rowPts (d : Dev nD) (r : Fin 256) (f : Buf (Elt F) (oLoc d)) : sProp 𝕄 := oLoc d ↦[rowSet r]{fullShare} f
abbrev kPts (d : Dev nD) (q : PosShare TreeShare) : sProp 𝕄 := kLoc d ↦{q} m (kLoc d)
abbrev tPts (d : Dev nD) (q : PosShare TreeShare) : sProp 𝕄 := tLoc d ↦{q} tr m d

/-- A row of the transposed matrix and a row of the result, at the offsets the program prints. -/
abbrev tS (p : Fin 2 → ℕ) (hp : ∀ a, p a + S1x65536.size a ≤ S64x65536.size a) : Memref sig .scVector .hbm S1x65536 .f32 :=
  (tV).slice (Rect.unit (s := S64x65536) p S1x65536.size hp) (fun _ => rfl)
abbrev oS (o : Fin 2 → ℕ) (ho : ∀ a, o a + S1x65536.size a ≤ S256x65536.size a) : Memref sig .scVector .hbm S1x65536 .f32 :=
  (oV).slice (Rect.unit (s := S256x65536) o S1x65536.size ho) (fun _ => rfl)

theorem row_inb {v : BitVec 32} (h : v.toNat < 64) : ∀ a, (![v.toNat, 0] : Fin 2 → ℕ) a + S1x65536.size a ≤ S64x65536.size a := by
  intro a
  match a with
  | 0 => show v.toNat + 1 ≤ 64; omega
  | 1 => show 0 + 65536 ≤ 65536; omega

theorem set_oS (r : Fin 256) (o : Fin 2 → ℕ) (ho : ∀ a, o a + S1x65536.size a ≤ S256x65536.size a) (e : o = ![r.val, 0]) :
    (oS o ho).view.set = rowSet r := by
  subst e
  show ((View.whole (main_v1_scv : Ref sig .scVector)).slice (Rect.unit (s := S256x65536) ![r.val, 0] S1x65536.size ho)).set = _
  rw [View.set_slice_whole]
  ext x
  rw [Rect.mem_set_unit]
  simp only [rowSet, Finset.mem_filter, Finset.mem_univ, true_and]
  constructor
  · intro h
    have h0 : r.val ≤ (x 0).val ∧ (x 0).val < r.val + 1 := h 0
    omega
  · intro h a
    match a with
    | 0 => show r.val ≤ (x 0).val ∧ (x 0).val < r.val + 1; omega
    | 1 => have h1 : (x 1).val < 65536 := (x 1).isLt; show 0 ≤ (x 1).val ∧ (x 1).val < 0 + 65536; omega

/-- A load of the scratch, once the row numbers have landed in it. -/
theorem load_eq (d : Dev nD) (fs : (cc0_scratch0 : Ref sig .scVector).ty.Contents (Elt F)) (r c : Fin 4) (o : Fin 2 → ℕ) (inb : ∀ a, o a + S1x16.size a ≤ S4x64.size a) (e : o = ![r.val, 16 * c.val]) :
    (sV).view.readAt (Elt F) (Rect.unit (s := S4x64) o S1x16.size inb).toLoadRect
      ((sV).view.write (Elt F) fs (ReadAs.same.apply ((kV).view.read (Elt F) (m (kLoc d)))) Finset.univ) = rd (F := F) (m (kLoc d)) r c := by
  subst e
  show (View.whole (cc0_scratch0 : Ref sig .scVector)).readAt (Elt F) _ ((View.whole (cc0_scratch0 : Ref sig .scVector)).write (Elt F) fs _ Finset.univ) = _
  rw [View.write_whole_univ]
  funext x
  rw [View.readAt_apply]
  show m (kLoc d) _ = m (kLoc d) _
  have hx : (x 0).val = 0 := by have : (x 0).val < 1 := (x 0).isLt; omega
  congr 1
  funext a
  match a with
  | 0 => refine Fin.ext ?_; show r.val + 1 * (x 0).val = r.val; omega
  | 1 => refine Fin.ext ?_; show 16 * c.val + 1 * (x 1).val = 16 * c.val + (x 1).val; omega

/-- A row the copy has landed in holds what the call is to leave there. -/
theorem landed_eq (d : Dev nD) (r : Fin 256) (o : Fin 2 → ℕ) (ho : ∀ a, o a + S1x65536.size a ≤ S256x65536.size a) (e : o = ![r.val, 0])
    (v : BitVec 32) (hv : v = word m d r) (hlt : (word m d r).toNat < 64) (p : Fin 2 → ℕ) (hp : ∀ a, p a + S1x65536.size a ≤ S64x65536.size a)
    (ep : p = ![v.toNat, 0]) (f : Buf (Elt F) (oLoc d)) :
    (oLoc d ↦[(oS o ho).view.set]{fullShare} (oS o ho).view.writes (Elt F) f [⟨Rect.whole S1x65536, ReadAs.same.apply ((tS p hp).view.read (Elt F) (tr m d))⟩] : sProp 𝕄)
      = rowPts d r (out m d) := by
  subst e ep hv
  rw [pointsTo_congr (g := out m d), set_oS r _ ho rfl]
  intro i hi
  obtain ⟨x, -, rfl⟩ := Finset.mem_map.mp hi
  have h := congrFun (View.read_writes_whole (Val := Elt F) (oS ![r.val, 0] ho).view f (ReadAs.same.apply ((tS _ hp).view.read (Elt F) (tr m d)))) x
  rw [View.read_apply] at h
  refine ((cast_eq rfl _).symm.trans h).trans ?_
  show (tS _ hp).view.read (Elt F) (tr m d) x = _
  rw [View.read_apply]
  show tr m d _ = tr m d _
  have hx : (x 0).val = 0 := by have : (x 0).val < 1 := (x 0).isLt; omega
  have hr : ((oS ![r.val, 0] ho).view.emb x) 0 = r := Fin.ext (by show r.val + 1 * (x 0).val = r.val; omega)
  refine congrArg (tr m d) (funext fun a => ?_)
  match a with
  | 0 =>
    refine Fin.ext ?_
    show (word m d r).toNat + 1 * (x 0).val = (word m d (((oS ![r.val, 0] ho).view.emb x) 0)).toNat % 64
    rw [hr, Nat.mod_eq_of_lt hlt]; omega
  | 1 => exact Fin.ext rfl

section Tile

variable (d : Dev nD) (L : grid0.Coords)

abbrev cV (L : grid0.Coords) : Fin τ.nSC := (L 0).castLE hcore0
abbrev jV (L : grid0.Coords) : Fin τ.nSub := (L 1).castLE hsub0

abbrev cell (d : Dev nD) (c : Fin τ.nSC) (i : Fin τ.nSub) (s : DmaSems sig S_) : GSem nD τ sig := (V d c i, .dma s.sem)

theorem ownSems0_V :
    (ownSems0 (V d (cV L) (jV L)) : sProp 𝕄)
      = iprop(semVal (cell d (cV L) (jV L) cc0_scratch1) 0 ∗ semVal (cell d (cV L) (jV L) cc0_scratch2) 0
          ∗ semVal (cell d (cV L) (jV L) cc0_scratch3) 0 ∗ semVal (cell d (cV L) (jV L) cc0_scratch4) 0
          ∗ semVal (cell d (cV L) (jV L) cc0_scoped0) 0
          ∗ bigSep ((((((ownCells (V d (cV L) (jV L))).erase (cell d (cV L) (jV L) cc0_scratch1)).erase (cell d (cV L) (jV L) cc0_scratch2)).erase
              (cell d (cV L) (jV L) cc0_scratch3)).erase (cell d (cV L) (jV L) cc0_scratch4)).erase (cell d (cV L) (jV L) cc0_scoped0)) fun g => semVal g 0) := by
  have hm : ∀ s : DmaSem sig, (SemLoc.dma s : SemLoc sig).isScoped .scVector = true → ((V d (cV L) (jV L), .dma s) : GSem nD τ sig) ∈ ownCells (V d (cV L) (jV L)) :=
    fun s h => mem_ownCells.mpr ⟨rfl, h⟩
  unfold SparseCore.Cfg.ownSems0
  rw [SparseCore.bigSep_erase' (hm cc0_scratch1.sem (by decide)),
    SparseCore.bigSep_erase' (Finset.mem_erase.mpr ⟨by simp [cell]; decide, hm cc0_scratch2.sem (by decide)⟩),
    SparseCore.bigSep_erase' (Finset.mem_erase.mpr ⟨by simp [cell]; decide, Finset.mem_erase.mpr ⟨by simp [cell]; decide, hm cc0_scratch3.sem (by decide)⟩⟩),
    SparseCore.bigSep_erase' (Finset.mem_erase.mpr ⟨by simp [cell]; decide, Finset.mem_erase.mpr ⟨by simp [cell]; decide,
      Finset.mem_erase.mpr ⟨by simp [cell]; decide, hm cc0_scratch4.sem (by decide)⟩⟩⟩),
    SparseCore.bigSep_erase' (Finset.mem_erase.mpr ⟨by simp [cell]; decide, Finset.mem_erase.mpr ⟨by simp [cell]; decide,
      Finset.mem_erase.mpr ⟨by simp [cell]; decide, Finset.mem_erase.mpr ⟨by simp [cell]; decide, hm cc0_scoped0.sem (by decide)⟩⟩⟩⟩)]

theorem ownBufs_V :
    (ownBufs (V d (cV L) (jV L)) : sProp 𝕄)
      = iprop((∃ f, (V d (cV L) (jV L)).loc cc0_scratch0 ↦{fullShare} f)
          ∗ bigSep ((ownRefs (τ := τ) (.scVector (cV L) (jV L))).erase ((Proc.scVector (cV L) (jV L)).devRef cc0_scratch0))
              fun b => iprop(∃ f, ((d, b) : Loc nD τ sig) ↦{fullShare} f)) := by
  unfold SparseCore.Cfg.ownBufs
  exact SparseCore.bigSep_erase' (SparseCore.Cfg.mem_ownRefs_of_owner (p := Proc.scVector (cV L) (jV L))
    (b := (Proc.scVector (cV L) (jV L)).devRef cc0_scratch0) rfl)

theorem pts_kV (q : PosShare TreeShare) (f : Buf (Elt F) (kLoc d)) :
    ((kV).view.loc (V d (cV L) (jV L)) ↦{q} f : sProp 𝕄) = kLoc d ↦{q} f := rfl
theorem pts_sV (f : Buf (Elt F) ((V d (cV L) (jV L)).loc cc0_scratch0)) :
    ((sV).view.loc (V d (cV L) (jV L)) ↦{fullShare} f : sProp 𝕄) = (V d (cV L) (jV L)).loc cc0_scratch0 ↦{fullShare} f := rfl

variable [FloatOps F]

theorem bigSep8 {M : Type} [URA M] (Φ : Fin 8 → sProp M) :
    bigSep Finset.univ Φ = iprop(Φ 0 ∗ Φ 1 ∗ Φ 2 ∗ Φ 3 ∗ Φ 4 ∗ Φ 5 ∗ Φ 6 ∗ Φ 7) := by
  rw [show (Finset.univ : Finset (Fin 8)) = {0, 1, 2, 3, 4, 5, 6, 7} by decide,
    bigSep_insert (by decide), bigSep_insert (by decide), bigSep_insert (by decide), bigSep_insert (by decide), bigSep_insert (by decide),
    bigSep_insert (by decide), bigSep_insert (by decide), bigSep_singleton]
  rfl

/-- The rows of the task at SparseCore `L 0`, subcore `L 1`. -/
def rowOf (j : Fin 8) : Fin 256 := ⟨16 * (L 1).val + 8 * (L 0).val + j.val, by
  have h0 : (L 0).val < 2 := (L 0).isLt
  have h1 : (L 1).val < 16 := (L 1).isLt
  omega⟩

/-- What one copy brings back: the row it landed in, and the share of the row it read. -/
abbrev del (o : Fin 2 → ℕ) (ho : ∀ a, o a + S1x65536.size a ≤ S256x65536.size a) (p : Fin 2 → ℕ) (hp : ∀ a, p a + S1x65536.size a ≤ S64x65536.size a)
    (q : PosShare TreeShare) : sProp 𝕄 :=
  iprop(((oS o ho).view.loc (V d (cV L) (jV L)) ↦[(oS o ho).view.set]{fullShare}
      (oS o ho).view.writes (Elt F) (m (oLoc d)) [⟨Rect.whole S1x65536, ReadAs.same.apply ((tS p hp).view.read (Elt F) (tr m d))⟩])
    ∗ ((tS p hp).view.loc (V d (cV L) (jV L)) ↦[(tS p hp).view.set]{q} tr m d))

/-- The two copies of one semaphore. -/
def two (A B : sProp 𝕄) : Fin 2 → sProp 𝕄 := fun | 0 => A | 1 => B

instance two_storable (A B : sProp 𝕄) [BI.Storable (upEmb : UEmb _ 𝕄) A] [BI.Storable (upEmb : UEmb _ 𝕄) B] (t : Fin 2) :
    BI.Storable (upEmb : UEmb _ 𝕄) (two A B t) :=
  match t with
  | 0 => (inferInstance : BI.Storable (upEmb : UEmb _ 𝕄) A)
  | 1 => (inferInstance : BI.Storable (upEmb : UEmb _ 𝕄) B)

/-- A share of the matrix lent for one copy: the row it reads, and the rest, put aside. -/
theorem lend (p : Fin 2 → ℕ) (hp : ∀ a, p a + S1x65536.size a ≤ S64x65536.size a) (q : PosShare TreeShare) :
    tPts m d q ⊢ iprop(((tS p hp).view.loc (V d (cV L) (jV L)) ↦[(tS p hp).view.set]{q} tr m d)
      ∗ Parked (tLoc d ↦[Finset.univ \ (tS p hp).view.set]{q} tr m d)) :=
  (pointsTo_split_subset (Finset.subset_univ _)).1
theorem unlend (p : Fin 2 → ℕ) (hp : ∀ a, p a + S1x65536.size a ≤ S64x65536.size a) (q : PosShare TreeShare) :
    iprop(((tS p hp).view.loc (V d (cV L) (jV L)) ↦[(tS p hp).view.set]{q} tr m d)
      ∗ Parked (tLoc d ↦[Finset.univ \ (tS p hp).view.set]{q} tr m d)) ⊢ tPts m d q :=
  (pointsTo_split_subset (Finset.subset_univ _)).2

theorem pts_oS (j : Fin 8) (o : Fin 2 → ℕ) (ho : ∀ a, o a + S1x65536.size a ≤ S256x65536.size a) (e : o = ![(rowOf L j).val, 0]) (f : Buf (Elt F) (oLoc d)) :
    rowPts d (rowOf L j) f ⊢ ((oS o ho).view.loc (V d (cV L) (jV L)) ↦[(oS o ho).view.set]{fullShare} f : sProp 𝕄) :=
  Entails.of_eq (by rw [set_oS _ o ho e])

theorem inb_oS (j : Fin 8) (o : Fin 2 → ℕ) (e : o = ![(rowOf L j).val, 0]) : ∀ a, o a + S1x65536.size a ≤ S256x65536.size a := by
  subst e
  intro a
  have h := (rowOf L j).isLt
  match a with
  | 0 => show (rowOf L j).val + 1 ≤ 256; omega
  | 1 => show 0 + 65536 ≤ 65536; omega

/-- A row of the result as a copy takes it, the row of the transposed matrix it reads, and a semaphore's two copies of
    which `n` are started. -/
abbrev dst (o : Fin 2 → ℕ) (ho : ∀ a, o a + S1x65536.size a ≤ S256x65536.size a) : sProp 𝕄 :=
  (oS o ho).view.loc (V d (cV L) (jV L)) ↦[(oS o ho).view.set]{fullShare} m (oLoc d)
abbrev src (p : Fin 2 → ℕ) (hp : ∀ a, p a + S1x65536.size a ≤ S64x65536.size a) (q : PosShare TreeShare) : sProp 𝕄 :=
  (tS p hp).view.loc (V d (cV L) (jV L)) ↦[(tS p hp).view.set]{q} tr m d
abbrev bat (s : DmaSem sig) (A B : sProp 𝕄) (n : ℕ) : sProp 𝕄 :=
  Transfers.Batch (countersEmb (U := UU)) (V d (cV L) (jV L)) (.dma s) (default : HIx 1)
    ((oS (k0_off1 L) (inb_oS L 0 _ (k0_off1_eq L))).view.amount (SemLoc.dma (sig := sig) s)) (two A B) n 0

/-- The fifth part of the body: the last three loads, the first two row numbers. -/
theorem part5_wp (g : Buf (Elt F) ((V d (cV L) (jV L)).loc cc0_scratch0)) (v1 v18 v45 v56 : BitVec 32) (v57 : IVec S16 32) (v136 : Vec F S16 .i32) (v139 : BitVec 1)
    (l1 l2 l3 : Vec F S1x16 .i32)
    (h1 : (sV).view.readAt (Elt F) (Rect.unit (s := S4x64) ![3, 16] S1x16.size inb_S4x64_S1x16_3_16).toLoadRect g = l1)
    (h2 : (sV).view.readAt (Elt F) (Rect.unit (s := S4x64) ![3, 32] S1x16.size inb_S4x64_S1x16_3_32).toLoadRect g = l2)
    (h3 : (sV).view.readAt (Elt F) (Rect.unit (s := S4x64) ![3, 48] S1x16.size inb_S4x64_S1x16_3_48).toLoadRect g = l3)
    (c1 : k0_chk1 (extractAt ![15] (k0_pay5 v18 v45 v56 v57 v136 v139 l1 l2 l3) inpos_S16_p15))
    (c2 : k0_chk2 (extractAt ![15] (k0_pay6 v18 v45 v56 v57 v136 v139 l1 l2 l3) inpos_S16_p15))
    {Φ : (Σ' (_ : Vec F S16 .i32) (v162 : BitVec 32) (_ : k0_chk1 v162) (v172 : BitVec 32), k0_chk2 v172) → sProp 𝕄} :
    ((sV).view.loc (V d (cV L) (jV L)) ↦{fullShare} g : sProp 𝕄)
      ⊢ iprop((∀ r, ⌜r.1 = k0_pay4 v18 v45 v136 v139 l1 l2 l3 ∧ r.2.1 = extractAt ![15] (k0_pay5 v18 v45 v56 v57 v136 v139 l1 l2 l3) inpos_S16_p15
            ∧ r.2.2.2.1 = extractAt ![15] (k0_pay6 v18 v45 v56 v57 v136 v139 l1 l2 l3) inpos_S16_p15⌝
          -∗ ((sV).view.loc (V d (cV L) (jV L)) ↦{fullShare} g) -∗ Φ r)
        -∗ wp frame (wpE (defs₀ (F := F)) 𝒱₀ (V d (cV L) (jV L)) none) Set.univ
          (k0_part5 L tV (Memref.isWhole_whole _) kV (Memref.isWhole_whole _) oV (Memref.isWhole_whole _)
            sV (Memref.isWhole_whole _) cc0_scratch1 cc0_scratch2 cc0_scratch3 cc0_scratch4 cc0_scoped0 v1 v18 v45 v56 v57 v136 v139) Φ) := by
  subst h1 h2 h3
  rw [k0_part5_eq_skeleton]; unfold k0_part5_skel
  iintro Hs Hk
  sl_exec
  sl_step
  iapply Hk
  · ipureintro; exact ⟨rfl, rfl, rfl⟩
  iexact Hs

/-- The sixth part: four more row numbers. -/
theorem part6_wp (v1 v56 : BitVec 32) (v57 : IVec S16 32) (v154 : Vec F S16 .i32)
    (c3 : k0_chk3 (extractAt ![15] (k0_pay7 v56 v57 v154) inpos_S16_p15)) (c4 : k0_chk4 (extractAt ![15] (k0_pay8 v56 v57 v154) inpos_S16_p15))
    (c5 : k0_chk5 (extractAt ![15] (k0_pay9 v56 v57 v154) inpos_S16_p15)) (c6 : k0_chk6 (extractAt ![15] (k0_pay10 v56 v57 v154) inpos_S16_p15))
    {Φ : (Σ' (v182 : BitVec 32) (_ : k0_chk3 v182) (v192 : BitVec 32) (_ : k0_chk4 v192) (v202 : BitVec 32) (_ : k0_chk5 v202) (v212 : BitVec 32), k0_chk6 v212) → sProp 𝕄} :
    iprop(∀ r, ⌜r.1 = extractAt ![15] (k0_pay7 v56 v57 v154) inpos_S16_p15 ∧ r.2.2.1 = extractAt ![15] (k0_pay8 v56 v57 v154) inpos_S16_p15
          ∧ r.2.2.2.2.1 = extractAt ![15] (k0_pay9 v56 v57 v154) inpos_S16_p15 ∧ r.2.2.2.2.2.2.1 = extractAt ![15] (k0_pay10 v56 v57 v154) inpos_S16_p15⌝ -∗ Φ r)
      ⊢ wp frame (wpE (defs₀ (F := F)) 𝒱₀ (V d (cV L) (jV L)) none) Set.univ
          (k0_part6 L tV (Memref.isWhole_whole _) kV (Memref.isWhole_whole _) oV (Memref.isWhole_whole _)
            sV (Memref.isWhole_whole _) cc0_scratch1 cc0_scratch2 cc0_scratch3 cc0_scratch4 cc0_scoped0 v1 v56 v57 v154) Φ := by
  rw [k0_part6_eq_skeleton]; unfold k0_part6_skel
  iintro Hk
  sl_exec
  sl_step
  iapply Hk
  ipureintro; exact ⟨rfl, rfl, rfl, rfl⟩

/-- The seventh part: the last two row numbers and the first four copies started. -/
theorem part7_wp (v1 v56 : BitVec 32) (v57 : IVec S16 32) (v154 : Vec F S16 .i32)
    (v162 : BitVec 32) (hw1 : k0_chk1 v162) (v172 : BitVec 32) (hw2 : k0_chk2 v172) (v182 : BitVec 32) (hw3 : k0_chk3 v182)
    (v192 : BitVec 32) (hw4 : k0_chk4 v192) (v202 : BitVec 32) (hw5 : k0_chk5 v202)
    (q0 q1 q2 q3 : PosShare TreeShare) (B0 B1 B2 B3 : sProp 𝕄)
    (c7 : k0_chk7 (extractAt ![15] (k0_pay11 v56 v57 v154) inpos_S16_p15)) (c8 : k0_chk8 (extractAt ![15] (k0_pay12 v56 v57 v154) inpos_S16_p15))
    {Φ : (Σ' (v222 : BitVec 32) (_ : k0_chk7 v222) (v232 : BitVec 32), k0_chk8 v232) → sProp 𝕄} :
    iprop(src m d L (k0_off2 v162) (k0_off2_inb v162 hw1) q0 ∗ dst m d L (k0_off1 L) (inb_oS L 0 _ (k0_off1_eq L)) ∗ bat d L cc0_scratch1.sem (del m d L (k0_off1 L) (inb_oS L 0 _ (k0_off1_eq L)) (k0_off2 v162) (k0_off2_inb v162 hw1) q0) B0 0 ∗ src m d L (k0_off4 v172) (k0_off4_inb v172 hw2) q1 ∗ dst m d L (k0_off3 L) (inb_oS L 1 _ (k0_off3_eq L)) ∗ bat d L cc0_scratch2.sem (del m d L (k0_off3 L) (inb_oS L 1 _ (k0_off3_eq L)) (k0_off4 v172) (k0_off4_inb v172 hw2) q1) B1 0 ∗ src m d L (k0_off6 v182) (k0_off6_inb v182 hw3) q2 ∗ dst m d L (k0_off5 L) (inb_oS L 2 _ (k0_off5_eq L)) ∗ bat d L cc0_scratch3.sem (del m d L (k0_off5 L) (inb_oS L 2 _ (k0_off5_eq L)) (k0_off6 v182) (k0_off6_inb v182 hw3) q2) B2 0 ∗ src m d L (k0_off8 v192) (k0_off8_inb v192 hw4) q3 ∗ dst m d L (k0_off7 L) (inb_oS L 3 _ (k0_off7_eq L)) ∗ bat d L cc0_scratch4.sem (del m d L (k0_off7 L) (inb_oS L 3 _ (k0_off7_eq L)) (k0_off8 v192) (k0_off8_inb v192 hw4) q3) B3 0)
      ⊢ iprop((∀ r, ⌜r.1 = extractAt ![15] (k0_pay11 v56 v57 v154) inpos_S16_p15 ∧ r.2.2.1 = extractAt ![15] (k0_pay12 v56 v57 v154) inpos_S16_p15⌝
          -∗ bat d L cc0_scratch1.sem (del m d L (k0_off1 L) (inb_oS L 0 _ (k0_off1_eq L)) (k0_off2 v162) (k0_off2_inb v162 hw1) q0) B0 1 -∗ bat d L cc0_scratch2.sem (del m d L (k0_off3 L) (inb_oS L 1 _ (k0_off3_eq L)) (k0_off4 v172) (k0_off4_inb v172 hw2) q1) B1 1 -∗ bat d L cc0_scratch3.sem (del m d L (k0_off5 L) (inb_oS L 2 _ (k0_off5_eq L)) (k0_off6 v182) (k0_off6_inb v182 hw3) q2) B2 1 -∗ bat d L cc0_scratch4.sem (del m d L (k0_off7 L) (inb_oS L 3 _ (k0_off7_eq L)) (k0_off8 v192) (k0_off8_inb v192 hw4) q3) B3 1 -∗ Φ r)
        -∗ wp frame (wpE (defs₀ (F := F)) 𝒱₀ (V d (cV L) (jV L)) none) Set.univ
          (k0_part7 L tV (Memref.isWhole_whole _) kV (Memref.isWhole_whole _) oV (Memref.isWhole_whole _)
            sV (Memref.isWhole_whole _) cc0_scratch1 cc0_scratch2 cc0_scratch3 cc0_scratch4 cc0_scoped0 v1 v56 v57 v154
            v162 hw1 v172 hw2 v182 hw3 v192 hw4 v202 hw5) Φ) := by
  rw [k0_part7_eq_skeleton]; unfold k0_part7_skel
  iintro ⟨Ht0, Ho0, HB0, Ht1, Ho1, HB1, Ht2, Ho2, HB2, Ht3, Ho3, HB3⟩ Hk
  sl_exec
  sl_step
  iapply Hk $$ [] HB0 HB1 HB2 HB3
  ipureintro; exact ⟨rfl, rfl⟩

end Tile

end Cert.Proof.Gather
-- ==== Proof.Body.lean ====
/-
  The run of one task. The task copies the row numbers to its scratch, computes its eight, starts the eight row copies
  two to a semaphore, and waits for them all: a semaphore's two copies are one batch, and its second wait brings both
  rows back (`tile_run`). `tile_body` is the same from the task's share of the launch's arrays.
-/
module

public import proofs.«01_k».proof.Proof.Tile

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

variable {F : FTy → Type}

local notation "𝕄" => MT nD τ sig (HIx 1) (Elt F) ℕ UU ℕ
local notation "tV" => (Memref.whole Cert.KernelIdeal.main_v0_scv : Memref Cert.KernelIdeal.sig Kind.scVector Space.hbm Cert.KernelIdeal.S64x65536 EltTy.f32)
local notation "kV" => (Memref.whole Cert.KernelIdeal.main_arg2_scv : Memref Cert.KernelIdeal.sig Kind.scVector Space.hbm Cert.KernelIdeal.S4x64 EltTy.i32)
local notation "oV" => (Memref.whole Cert.KernelIdeal.main_v1_scv : Memref Cert.KernelIdeal.sig Kind.scVector Space.hbm Cert.KernelIdeal.S256x65536 EltTy.f32)
local notation "sV" => (Memref.whole Cert.KernelIdeal.cc0_scratch0 : Memref Cert.KernelIdeal.sig Kind.scVector Space.vmem Cert.KernelIdeal.S4x64 EltTy.i32)

variable (m : (ℓ : Loc nD τ sig) → Buf (Elt F) ℓ) (d : Dev nD) (L : grid0.Coords) [FloatOps F]

set_option maxHeartbeats 1000000 in
set_option maxRecDepth 200000 in
/-- The task runs: every row landed, every lent row back, every semaphore at zero. -/
theorem tile_run (hpre : PreOK m) (O : CellTallies nD τ sig (HIx 1)) (W : Waits sig (HIx 1)) (hO : ∀ g, O g none = 0)
    (q : PosShare TreeShare) (qt : Fin 8 → PosShare TreeShare) (fs : Buf (Elt F) ((V d (cV L) (jV L)).loc cc0_scratch0)) {Φ : PUnit → sProp 𝕄} :
    iprop(levAts (K (F := F)).L (K (F := F)).lev ∗ kPts m d q ∗ ((V d (cV L) (jV L)).loc cc0_scratch0 ↦{fullShare} fs)
        ∗ (src m d L (k0_off2 (word m d (rowOf L 0))) (row_inb (hpre d (rowOf L 0))) (qt 0) ∗ dst m d L (k0_off1 L) (inb_oS L 0 _ (k0_off1_eq L)) ∗ src m d L (k0_off4 (word m d (rowOf L 1))) (row_inb (hpre d (rowOf L 1))) (qt 1) ∗ dst m d L (k0_off3 L) (inb_oS L 1 _ (k0_off3_eq L)) ∗ src m d L (k0_off6 (word m d (rowOf L 2))) (row_inb (hpre d (rowOf L 2))) (qt 2) ∗ dst m d L (k0_off5 L) (inb_oS L 2 _ (k0_off5_eq L)) ∗ src m d L (k0_off8 (word m d (rowOf L 3))) (row_inb (hpre d (rowOf L 3))) (qt 3) ∗ dst m d L (k0_off7 L) (inb_oS L 3 _ (k0_off7_eq L)) ∗ src m d L (k0_off10 (word m d (rowOf L 4))) (row_inb (hpre d (rowOf L 4))) (qt 4) ∗ dst m d L (k0_off9 L) (inb_oS L 4 _ (k0_off9_eq L)) ∗ src m d L (k0_off12 (word m d (rowOf L 5))) (row_inb (hpre d (rowOf L 5))) (qt 5) ∗ dst m d L (k0_off11 L) (inb_oS L 5 _ (k0_off11_eq L)) ∗ src m d L (k0_off14 (word m d (rowOf L 6))) (row_inb (hpre d (rowOf L 6))) (qt 6) ∗ dst m d L (k0_off13 L) (inb_oS L 6 _ (k0_off13_eq L)) ∗ src m d L (k0_off16 (word m d (rowOf L 7))) (row_inb (hpre d (rowOf L 7))) (qt 7) ∗ dst m d L (k0_off15 L) (inb_oS L 7 _ (k0_off15_eq L)))
        ∗ (bat d L cc0_scratch1.sem (del m d L (k0_off1 L) (inb_oS L 0 _ (k0_off1_eq L)) (k0_off2 (word m d (rowOf L 0))) (row_inb (hpre d (rowOf L 0))) (qt 0)) (del m d L (k0_off9 L) (inb_oS L 4 _ (k0_off9_eq L)) (k0_off10 (word m d (rowOf L 4))) (row_inb (hpre d (rowOf L 4))) (qt 4)) 0 ∗ bat d L cc0_scratch2.sem (del m d L (k0_off3 L) (inb_oS L 1 _ (k0_off3_eq L)) (k0_off4 (word m d (rowOf L 1))) (row_inb (hpre d (rowOf L 1))) (qt 1)) (del m d L (k0_off11 L) (inb_oS L 5 _ (k0_off11_eq L)) (k0_off12 (word m d (rowOf L 5))) (row_inb (hpre d (rowOf L 5))) (qt 5)) 0 ∗ bat d L cc0_scratch3.sem (del m d L (k0_off5 L) (inb_oS L 2 _ (k0_off5_eq L)) (k0_off6 (word m d (rowOf L 2))) (row_inb (hpre d (rowOf L 2))) (qt 2)) (del m d L (k0_off13 L) (inb_oS L 6 _ (k0_off13_eq L)) (k0_off14 (word m d (rowOf L 6))) (row_inb (hpre d (rowOf L 6))) (qt 6)) 0 ∗ bat d L cc0_scratch4.sem (del m d L (k0_off7 L) (inb_oS L 3 _ (k0_off7_eq L)) (k0_off8 (word m d (rowOf L 3))) (row_inb (hpre d (rowOf L 3))) (qt 3)) (del m d L (k0_off15 L) (inb_oS L 7 _ (k0_off15_eq L)) (k0_off16 (word m d (rowOf L 7))) (row_inb (hpre d (rowOf L 7))) (qt 7)) 0)
        ∗ semVal (cell d (cV L) (jV L) cc0_scoped0) 0 ∗ owes (V d (cV L) (jV L)) O W)
      ⊢ iprop((∀ W', ⌜∀ p ∈ W', p ∈ W ∨ p.2 = none⌝ -∗ owes (V d (cV L) (jV L)) O W' -∗ kPts m d q -∗ (∃ f, (V d (cV L) (jV L)).loc cc0_scratch0 ↦{fullShare} f)
            -∗ (del m d L (k0_off1 L) (inb_oS L 0 _ (k0_off1_eq L)) (k0_off2 (word m d (rowOf L 0))) (row_inb (hpre d (rowOf L 0))) (qt 0)) -∗ (del m d L (k0_off3 L) (inb_oS L 1 _ (k0_off3_eq L)) (k0_off4 (word m d (rowOf L 1))) (row_inb (hpre d (rowOf L 1))) (qt 1)) -∗ (del m d L (k0_off5 L) (inb_oS L 2 _ (k0_off5_eq L)) (k0_off6 (word m d (rowOf L 2))) (row_inb (hpre d (rowOf L 2))) (qt 2)) -∗ (del m d L (k0_off7 L) (inb_oS L 3 _ (k0_off7_eq L)) (k0_off8 (word m d (rowOf L 3))) (row_inb (hpre d (rowOf L 3))) (qt 3)) -∗ (del m d L (k0_off9 L) (inb_oS L 4 _ (k0_off9_eq L)) (k0_off10 (word m d (rowOf L 4))) (row_inb (hpre d (rowOf L 4))) (qt 4)) -∗ (del m d L (k0_off11 L) (inb_oS L 5 _ (k0_off11_eq L)) (k0_off12 (word m d (rowOf L 5))) (row_inb (hpre d (rowOf L 5))) (qt 5)) -∗ (del m d L (k0_off13 L) (inb_oS L 6 _ (k0_off13_eq L)) (k0_off14 (word m d (rowOf L 6))) (row_inb (hpre d (rowOf L 6))) (qt 6)) -∗ (del m d L (k0_off15 L) (inb_oS L 7 _ (k0_off15_eq L)) (k0_off16 (word m d (rowOf L 7))) (row_inb (hpre d (rowOf L 7))) (qt 7))
            -∗ semVal (cell d (cV L) (jV L) cc0_scratch1) 0 -∗ semVal (cell d (cV L) (jV L) cc0_scratch2) 0 -∗ semVal (cell d (cV L) (jV L) cc0_scratch3) 0 -∗ semVal (cell d (cV L) (jV L) cc0_scratch4) 0 -∗ semVal (cell d (cV L) (jV L) cc0_scoped0) 0 -∗ Φ ⟨⟩)
        -∗ wp frame (wpE (defs₀ (F := F)) 𝒱₀ (V d (cV L) (jV L)) none) Set.univ
          (cc0__row_gather L tV (Memref.isWhole_whole _) kV (Memref.isWhole_whole _) oV (Memref.isWhole_whole _)
            sV (Memref.isWhole_whole _) cc0_scratch1 cc0_scratch2 cc0_scratch3 cc0_scratch4 cc0_scoped0) Φ) := by
  rw [cc0__row_gather_eq_skeleton]; unfold cc0__row_gather_skel
  rw [k0_part8_eq_skeleton]; unfold k0_part8_skel
  simp only [k0_part1_eq_skeleton, k0_part2_eq_skeleton, k0_part3_eq_skeleton, k0_part4_eq_skeleton]
  unfold k0_part1_skel k0_part2_skel k0_part3_skel k0_part4_skel
  generalize hp5 : k0_part5 (F := F) = p5
  generalize hp6 : k0_part6 (F := F) = p6
  generalize hp7 : k0_part7 (F := F) = p7
  iintro ⟨#Hlv, Hk, Hs, ⟨Ht0, Ho0, Ht1, Ho1, Ht2, Ho2, Ht3, Ho3, Ht4, Ho4, Ht5, Ho5, Ht6, Ho6, Ht7, Ho7⟩, ⟨HB0, HB1, HB2, HB3⟩, Hsem0, HO⟩ Hpost
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hk' := (Entails.of_eq (pts_kV (F := F) d L _ _).symm) $$ Hk
  ihave Hs' := (Entails.of_eq (pts_sV (F := F) d L _).symm) $$ Hs
  sl_exec
  dsimp only
  have hL0 : (L 0).val < 2 := (L 0).isLt
  have hL1 : (L 1).val < 16 := (L 1).isLt
  have h18 : ∀ L : grid0.Coords, tile_run.sl.v18 L = BitVec.ofNat 32 ((2 * (L 1).val + (L 0).val) / 8) := by decide +kernel
  have h45 : ∀ L : grid0.Coords, tile_run.sl.v45 L = BitVec.ofNat 32 ((2 * (L 1).val + (L 0).val) % 8 / 2) := by decide +kernel
  have h56 : ∀ (L : grid0.Coords) (j : Fin 8), Scalar.addi (tile_run.sl.v56 L) (BitVec.ofNat 32 j.val) = BitVec.ofNat 32 (8 * ((2 * (L 1).val + (L 0).val) % 2) + j.val) := by
    decide +kernel
  have l63 : tile_run.sl.v63_ld m d L fs = rd (F := F) (m (kLoc d)) 0 0 := load_eq m d fs 0 0 _ _ rfl
  have l69 : tile_run.sl.v69_ld m d L fs = rd (F := F) (m (kLoc d)) 0 1 := load_eq m d fs 0 1 _ _ rfl
  have l75 : tile_run.sl.v75_ld m d L fs = rd (F := F) (m (kLoc d)) 0 2 := load_eq m d fs 0 2 _ _ rfl
  have l81 : tile_run.sl.v81_ld m d L fs = rd (F := F) (m (kLoc d)) 0 3 := load_eq m d fs 0 3 _ _ rfl
  have l87 : tile_run.sl.v87_ld m d L fs = rd (F := F) (m (kLoc d)) 1 0 := load_eq m d fs 1 0 _ _ rfl
  have l93 : tile_run.sl.v93_ld m d L fs = rd (F := F) (m (kLoc d)) 1 1 := load_eq m d fs 1 1 _ _ rfl
  have l99 : tile_run.sl.v99_ld m d L fs = rd (F := F) (m (kLoc d)) 1 2 := load_eq m d fs 1 2 _ _ rfl
  have l105 : tile_run.sl.v105_ld m d L fs = rd (F := F) (m (kLoc d)) 1 3 := load_eq m d fs 1 3 _ _ rfl
  have l111 : tile_run.sl.v111_ld m d L fs = rd (F := F) (m (kLoc d)) 2 0 := load_eq m d fs 2 0 _ _ rfl
  have l117 : tile_run.sl.v117_ld m d L fs = rd (F := F) (m (kLoc d)) 2 1 := load_eq m d fs 2 1 _ _ rfl
  have l123 : tile_run.sl.v123_ld m d L fs = rd (F := F) (m (kLoc d)) 2 2 := load_eq m d fs 2 2 _ _ rfl
  have l129 : tile_run.sl.v129_ld m d L fs = rd (F := F) (m (kLoc d)) 2 3 := load_eq m d fs 2 3 _ _ rfl
  have l135 : tile_run.sl.v135_ld m d L fs = rd (F := F) (m (kLoc d)) 3 0 := load_eq m d fs 3 0 _ _ rfl
  have hw : ∀ w : IVec S16 32, w = chain (F := F) (tile_run.sl.v18 L) (tile_run.sl.v45 L) (rd (m (kLoc d))) →
      w = (shapeCast S16 (rd (F := F) (m (kLoc d)) ⟨(2 * (L 1).val + (L 0).val) / 8, by omega⟩ ⟨(2 * (L 1).val + (L 0).val) % 8 / 2, by omega⟩) shapeCasts_S1x16_S16 : Vec F S16 .i32) := by
    intro w e
    rw [e, h18, h45]
    exact chain_eq ⟨_, _⟩ ⟨_, _⟩ _
  have ew : (k0_pay4 (tile_run.sl.v18 L) (tile_run.sl.v45 L) (k0_pay3 (tile_run.sl.v18 L) (tile_run.sl.v45 L) (k0_pay2 (tile_run.sl.v18 L) (tile_run.sl.v45 L) (k0_pay1 (tile_run.sl.v18 L) (tile_run.sl.v28 L) 2#32 (tile_run.sl.v29 L) (tile_run.sl.v34 L) 1#32 0#32 (tile_run.sl.v63_ld m d L fs) (tile_run.sl.v69_ld m d L fs)) (tile_run.sl.v73 L) (tile_run.sl.v75_ld m d L fs) (tile_run.sl.v81_ld m d L fs) (tile_run.sl.v87_ld m d L fs) (tile_run.sl.v93_ld m d L fs) (tile_run.sl.v99_ld m d L fs) (tile_run.sl.v105_ld m d L fs)) (tile_run.sl.v111_ld m d L fs) (tile_run.sl.v117_ld m d L fs) (tile_run.sl.v123_ld m d L fs) (tile_run.sl.v129_ld m d L fs) (tile_run.sl.v135_ld m d L fs)) (tile_run.sl.v139 m d L fs) (rd (F := F) (m (kLoc d)) 3 1) (rd (F := F) (m (kLoc d)) 3 2) (rd (F := F) (m (kLoc d)) 3 3)) = chain (F := F) (tile_run.sl.v18 L) (tile_run.sl.v45 L) (rd (m (kLoc d))) := by
    rw [l63, l69, l75, l81, l87, l93, l99, l105, l111, l117, l123, l129, l135]
    rfl
  have e0 : extractAt ![15] (k0_pay5 (tile_run.sl.v18 L) (tile_run.sl.v45 L) (tile_run.sl.v56 L) tile_run.sl.v57 (k0_pay3 (tile_run.sl.v18 L) (tile_run.sl.v45 L) (k0_pay2 (tile_run.sl.v18 L) (tile_run.sl.v45 L) (k0_pay1 (tile_run.sl.v18 L) (tile_run.sl.v28 L) 2#32 (tile_run.sl.v29 L) (tile_run.sl.v34 L) 1#32 0#32 (tile_run.sl.v63_ld m d L fs) (tile_run.sl.v69_ld m d L fs)) (tile_run.sl.v73 L) (tile_run.sl.v75_ld m d L fs) (tile_run.sl.v81_ld m d L fs) (tile_run.sl.v87_ld m d L fs) (tile_run.sl.v93_ld m d L fs) (tile_run.sl.v99_ld m d L fs) (tile_run.sl.v105_ld m d L fs)) (tile_run.sl.v111_ld m d L fs) (tile_run.sl.v117_ld m d L fs) (tile_run.sl.v123_ld m d L fs) (tile_run.sl.v129_ld m d L fs) (tile_run.sl.v135_ld m d L fs)) (tile_run.sl.v139 m d L fs) (rd (F := F) (m (kLoc d)) 3 1) (rd (F := F) (m (kLoc d)) 3 2) (rd (F := F) (m (kLoc d)) 3 3)) inpos_S16_p15 = word m d (rowOf L 0) :=
    picked (F := F) (m (kLoc d)) (L 0) (L 1) 0 _ _ (hw _ ew) (h56 L 0)
  have e1 : extractAt ![15] (k0_pay6 (tile_run.sl.v18 L) (tile_run.sl.v45 L) (tile_run.sl.v56 L) tile_run.sl.v57 (k0_pay3 (tile_run.sl.v18 L) (tile_run.sl.v45 L) (k0_pay2 (tile_run.sl.v18 L) (tile_run.sl.v45 L) (k0_pay1 (tile_run.sl.v18 L) (tile_run.sl.v28 L) 2#32 (tile_run.sl.v29 L) (tile_run.sl.v34 L) 1#32 0#32 (tile_run.sl.v63_ld m d L fs) (tile_run.sl.v69_ld m d L fs)) (tile_run.sl.v73 L) (tile_run.sl.v75_ld m d L fs) (tile_run.sl.v81_ld m d L fs) (tile_run.sl.v87_ld m d L fs) (tile_run.sl.v93_ld m d L fs) (tile_run.sl.v99_ld m d L fs) (tile_run.sl.v105_ld m d L fs)) (tile_run.sl.v111_ld m d L fs) (tile_run.sl.v117_ld m d L fs) (tile_run.sl.v123_ld m d L fs) (tile_run.sl.v129_ld m d L fs) (tile_run.sl.v135_ld m d L fs)) (tile_run.sl.v139 m d L fs) (rd (F := F) (m (kLoc d)) 3 1) (rd (F := F) (m (kLoc d)) 3 2) (rd (F := F) (m (kLoc d)) 3 3)) inpos_S16_p15 = word m d (rowOf L 1) :=
    picked (F := F) (m (kLoc d)) (L 0) (L 1) 1 _ _ (hw _ ew) (h56 L 1)
  subst hp5
  rw [wp_bind, wp_bind]
  iapply (part5_wp (F := F) d L (View.write (Elt F) (sV).view fs (tile_run.sl.dma0 m d) Finset.univ) _ _ _ _ _ _ _ _ _ _
    (load_eq m d fs 3 1 _ _ rfl) (load_eq m d fs 3 2 _ _ rfl) (load_eq m d fs 3 3 _ _ rfl)
    (e0.symm ▸ (⟨row_inb (hpre d _), row_inb (hpre d _)⟩ : k0_chk1 (word m d (rowOf L 0)))) (e1.symm ▸ (⟨row_inb (hpre d _), row_inb (hpre d _)⟩ : k0_chk2 (word m d (rowOf L 1))))) $$ Hs'
  rw [e0, e1, ew]
  iintro %r %hr Hs'
  obtain ⟨w, w0, k0, w1, k1⟩ := r
  obtain ⟨ew', ew0, ew1⟩ := hr
  dsimp only at ew' ew0 ew1
  subst ew0 ew1
  have hwin := hw w ew'
  clear ew ew' e0 e1 hw h18 h45 l63 l69 l75 l81 l87 l93 l99 l105 l111 l117 l123 l129 l135
  have e2 : extractAt ![15] (k0_pay7 (tile_run.sl.v56 L) tile_run.sl.v57 w) inpos_S16_p15 = word m d (rowOf L 2) :=
    picked (F := F) (m (kLoc d)) (L 0) (L 1) 2 _ _ hwin (h56 L 2)
  have e3 : extractAt ![15] (k0_pay8 (tile_run.sl.v56 L) tile_run.sl.v57 w) inpos_S16_p15 = word m d (rowOf L 3) :=
    picked (F := F) (m (kLoc d)) (L 0) (L 1) 3 _ _ hwin (h56 L 3)
  have e4 : extractAt ![15] (k0_pay9 (tile_run.sl.v56 L) tile_run.sl.v57 w) inpos_S16_p15 = word m d (rowOf L 4) :=
    picked (F := F) (m (kLoc d)) (L 0) (L 1) 4 _ _ hwin (h56 L 4)
  have e5 : extractAt ![15] (k0_pay10 (tile_run.sl.v56 L) tile_run.sl.v57 w) inpos_S16_p15 = word m d (rowOf L 5) :=
    picked (F := F) (m (kLoc d)) (L 0) (L 1) 5 _ _ hwin (h56 L 5)
  have e6 : extractAt ![15] (k0_pay11 (tile_run.sl.v56 L) tile_run.sl.v57 w) inpos_S16_p15 = word m d (rowOf L 6) :=
    picked (F := F) (m (kLoc d)) (L 0) (L 1) 6 _ _ hwin (h56 L 6)
  have e7 : extractAt ![15] (k0_pay12 (tile_run.sl.v56 L) tile_run.sl.v57 w) inpos_S16_p15 = word m d (rowOf L 7) :=
    picked (F := F) (m (kLoc d)) (L 0) (L 1) 7 _ _ hwin (h56 L 7)
  dsimp only
  subst hp6
  rw [wp_bind]
  iapply (part6_wp (F := F) d L _ _ _ _
    (e2.symm ▸ (⟨row_inb (hpre d _), row_inb (hpre d _)⟩ : k0_chk3 (word m d (rowOf L 2)))) (e3.symm ▸ (⟨row_inb (hpre d _), row_inb (hpre d _)⟩ : k0_chk4 (word m d (rowOf L 3))))
    (e4.symm ▸ (⟨row_inb (hpre d _), row_inb (hpre d _)⟩ : k0_chk5 (word m d (rowOf L 4)))) (e5.symm ▸ (⟨row_inb (hpre d _), row_inb (hpre d _)⟩ : k0_chk6 (word m d (rowOf L 5)))))
  rw [e2, e3, e4, e5]
  iintro %r %hr
  obtain ⟨w2, k2, w3, k3, w4, k4, w5, k5⟩ := r
  obtain ⟨ew2, ew3, ew4, ew5⟩ := hr
  dsimp only at ew2 ew3 ew4 ew5
  subst ew2 ew3 ew4 ew5
  clear e2 e3 e4 e5 hwin h56
  dsimp only
  subst hp7
  rw [wp_bind]
  iapply (part7_wp (F := F) m d L _ _ _ _ _ k0 _ k1 _ k2 _ k3 _ k4 (qt 0) (qt 1) (qt 2) (qt 3)
    (del m d L (k0_off9 L) (inb_oS L 4 _ (k0_off9_eq L)) (k0_off10 (word m d (rowOf L 4))) (row_inb (hpre d (rowOf L 4))) (qt 4)) (del m d L (k0_off11 L) (inb_oS L 5 _ (k0_off11_eq L)) (k0_off12 (word m d (rowOf L 5))) (row_inb (hpre d (rowOf L 5))) (qt 5))
    (del m d L (k0_off13 L) (inb_oS L 6 _ (k0_off13_eq L)) (k0_off14 (word m d (rowOf L 6))) (row_inb (hpre d (rowOf L 6))) (qt 6)) (del m d L (k0_off15 L) (inb_oS L 7 _ (k0_off15_eq L)) (k0_off16 (word m d (rowOf L 7))) (row_inb (hpre d (rowOf L 7))) (qt 7))
    (e6.symm ▸ (⟨row_inb (hpre d _), row_inb (hpre d _)⟩ : k0_chk7 (word m d (rowOf L 6)))) (e7.symm ▸ (row_inb (hpre d _) : k0_chk8 (word m d (rowOf L 7))))) $$ [Ht0 Ho0 HB0 Ht1 Ho1 HB1 Ht2 Ho2 HB2 Ht3 Ho3 HB3]
  · isplitl [Ht0]; · iexact Ht0
    isplitl [Ho0]; · iexact Ho0
    isplitl [HB0]; · iexact HB0
    isplitl [Ht1]; · iexact Ht1
    isplitl [Ho1]; · iexact Ho1
    isplitl [HB1]; · iexact HB1
    isplitl [Ht2]; · iexact Ht2
    isplitl [Ho2]; · iexact Ho2
    isplitl [HB2]; · iexact HB2
    isplitl [Ht3]; · iexact Ht3
    isplitl [Ho3]; · iexact Ho3
    iexact HB3
  rw [e6, e7]
  iintro %r %hr HB0 HB1 HB2 HB3
  obtain ⟨w6, k6, w7, k7⟩ := r
  obtain ⟨ew6, ew7⟩ := hr
  dsimp only at ew6 ew7
  subst ew6 ew7
  clear e6 e7
  dsimp only
  sl_exec
  sl_step
  iapply Hpost $$ [] HO [Hk'] [Hs'] [HB0_dst0 HB0_src0] [HB1_dst0 HB1_src0] [HB2_dst0 HB2_src0] [HB3_dst0 HB3_src0] [HB0_dst1 HB0_src1] [HB1_dst1 HB1_src1] [HB2_dst1 HB2_src1] [HB3_dst1 HB3_src1] [HB0] [HB1] [HB2] [HB3] [Hsem0]
  · ipureintro; intro p hp
    simp only [Finset.mem_insert] at hp
    rcases hp with hp | hp | hp | hp | hp | hp | hp | hp | hp | hp
    all_goals first | exact .inr (hp ▸ rfl) | exact .inl hp
  · iapply (Entails.of_eq (pts_kV (F := F) d L _ _)); iexact Hk'
  · iexists _; iapply (Entails.of_eq (pts_sV (F := F) d L _)); iexact Hs'
  · isplitl [HB0_dst0]; · iexact HB0_dst0
    iexact HB0_src0
  · isplitl [HB1_dst0]; · iexact HB1_dst0
    iexact HB1_src0
  · isplitl [HB2_dst0]; · iexact HB2_dst0
    iexact HB2_src0
  · isplitl [HB3_dst0]; · iexact HB3_dst0
    iexact HB3_src0
  · isplitl [HB0_dst1]; · iexact HB0_dst1
    iexact HB0_src1
  · isplitl [HB1_dst1]; · iexact HB1_dst1
    iexact HB1_src1
  · isplitl [HB2_dst1]; · iexact HB2_dst1
    iexact HB2_src1
  · isplitl [HB3_dst1]; · iexact HB3_dst1
    iexact HB3_src1
  · iexact HB0
  · iexact HB1
  · iexact HB2
  · iexact HB3
  · iexact Hsem0

end Cert.Proof.Gather
-- ==== Proof.Task.lean ====
/-
  One task from its share of the launch's arrays: its eight rows of the result come back as the gathered rows.
-/
module

public import proofs.«01_k».proof.Proof.Body

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

variable {F : FTy → Type}

local notation "𝕄" => MT nD τ sig (HIx 1) (Elt F) ℕ UU ℕ
local notation "tV" => (Memref.whole Cert.KernelIdeal.main_v0_scv : Memref Cert.KernelIdeal.sig Kind.scVector Space.hbm Cert.KernelIdeal.S64x65536 EltTy.f32)
local notation "kV" => (Memref.whole Cert.KernelIdeal.main_arg2_scv : Memref Cert.KernelIdeal.sig Kind.scVector Space.hbm Cert.KernelIdeal.S4x64 EltTy.i32)
local notation "oV" => (Memref.whole Cert.KernelIdeal.main_v1_scv : Memref Cert.KernelIdeal.sig Kind.scVector Space.hbm Cert.KernelIdeal.S256x65536 EltTy.f32)
local notation "sV" => (Memref.whole Cert.KernelIdeal.cc0_scratch0 : Memref Cert.KernelIdeal.sig Kind.scVector Space.vmem Cert.KernelIdeal.S4x64 EltTy.i32)

variable (m : (ℓ : Loc nD τ sig) → Buf (Elt F) ℓ) (d : Dev nD) (L : grid0.Coords) [FloatOps F]

/-- What a task takes and gives back: a share of the row numbers, a share of the transposed matrix for each of its
    copies, its eight rows of the result. -/
abbrev hand (q : PosShare TreeShare) (qt : Fin 8 → PosShare TreeShare) (f : Buf (Elt F) (oLoc d)) : sProp 𝕄 :=
  iprop(kPts m d q ∗ (bigSep Finset.univ fun j : Fin 8 => tPts m d (qt j)) ∗ bigSep Finset.univ fun j : Fin 8 => rowPts d (rowOf L j) f)

/-- A copy's delivery and the lent row's rest: the matrix's share whole again, the row of the result gathered. -/
theorem take (j : Fin 8) (o : Fin 2 → ℕ) (ho : ∀ a, o a + S1x65536.size a ≤ S256x65536.size a) (e : o = ![(rowOf L j).val, 0])
    (hpre : PreOK m) (p : Fin 2 → ℕ) (hp : ∀ a, p a + S1x65536.size a ≤ S64x65536.size a) (ep : p = ![(word m d (rowOf L j)).toNat, 0])
    (q : PosShare TreeShare) :
    iprop(del m d L o ho p hp q ∗ Parked (tLoc d ↦[Finset.univ \ (tS p hp).view.set]{q} tr m d))
      ⊢ iprop(tPts m d q ∗ rowPts d (rowOf L j) (out m d)) := by
  iintro ⟨⟨Ho, Ht⟩, Hr⟩
  isplitl [Ht Hr]
  · iapply (unlend m d L p hp q); isplitl [Ht] <;> iassumption
  · iapply (Entails.of_eq (landed_eq m d (rowOf L j) o ho e _ rfl (hpre d _) p hp ep _)); iexact Ho

set_option maxHeartbeats 1000000 in
theorem tile_body (hF : (K (F := F)).Facts) (hpre : PreOK m) (O : CellTallies nD τ sig (HIx 1)) (W : Waits sig (HIx 1)) (hO : ∀ g, O g none = 0)
    (q : PosShare TreeShare) (qt : Fin 8 → PosShare TreeShare) :
    iprop(levAts (K (F := F)).L (K (F := F)).lev ∗ emp
        ∗ hand m d L q qt (m (oLoc d))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__row_gather L tV (Memref.isWhole_whole _) kV (Memref.isWhole_whole _) oV (Memref.isWhole_whole _)
            sV (Memref.isWhole_whole _) cc0_scratch1 cc0_scratch2 cc0_scratch3 cc0_scratch4 cc0_scoped0)
          fun _ => iprop(hand m d L q qt (out m d)
            ∗ scopedBufs (V d (cV L) (jV L)) ∗ scopedSems0 (V d (cV L) (jV L))
            ∗ ∃ W', ⌜∀ p ∈ W', p ∈ W ∨ p.2 = none⌝ ∗ owes (V d (cV L) (jV L)) O W') := by
  unfold hand
  rw [(K (F := F)).scopedBufs_V hF d (cV L) (jV L), SparseCore.Cfg.scopedSems0_V (Val := Elt F) d (cV L) (jV L), ownSems0_V, ownBufs_V]
  rw [bigSep8 fun j => tPts m d (qt j), bigSep8 fun j => rowPts d (rowOf L j) (m (oLoc d)), bigSep8 fun j => rowPts d (rowOf L j) (out m d)]
  iintro ⟨#Hlv, -, ⟨Hk, ⟨Ht0, Ht1, Ht2, Ht3, Ht4, Ht5, Ht6, Ht7⟩, ⟨Ho0, Ho1, Ho2, Ho3, Ho4, Ho5, Ho6, Ho7⟩⟩,
    ⟨⟨%fs, Hs⟩, Hbufs⟩, ⟨Hsem1, Hsem2, Hsem3, Hsem4, Hsem0, Hsems⟩, HO⟩
  ihave Ho0 := (pts_oS d L 0 _ (inb_oS L 0 _ (k0_off1_eq L)) (k0_off1_eq L) _) $$ Ho0
  ihave Ht0 := (lend m d L (k0_off2 (word m d (rowOf L 0))) (row_inb (hpre d (rowOf L 0))) (qt 0)) $$ Ht0
  icases Ht0 with ⟨Ht0, Hr0⟩
  ihave Ho1 := (pts_oS d L 1 _ (inb_oS L 1 _ (k0_off3_eq L)) (k0_off3_eq L) _) $$ Ho1
  ihave Ht1 := (lend m d L (k0_off4 (word m d (rowOf L 1))) (row_inb (hpre d (rowOf L 1))) (qt 1)) $$ Ht1
  icases Ht1 with ⟨Ht1, Hr1⟩
  ihave Ho2 := (pts_oS d L 2 _ (inb_oS L 2 _ (k0_off5_eq L)) (k0_off5_eq L) _) $$ Ho2
  ihave Ht2 := (lend m d L (k0_off6 (word m d (rowOf L 2))) (row_inb (hpre d (rowOf L 2))) (qt 2)) $$ Ht2
  icases Ht2 with ⟨Ht2, Hr2⟩
  ihave Ho3 := (pts_oS d L 3 _ (inb_oS L 3 _ (k0_off7_eq L)) (k0_off7_eq L) _) $$ Ho3
  ihave Ht3 := (lend m d L (k0_off8 (word m d (rowOf L 3))) (row_inb (hpre d (rowOf L 3))) (qt 3)) $$ Ht3
  icases Ht3 with ⟨Ht3, Hr3⟩
  ihave Ho4 := (pts_oS d L 4 _ (inb_oS L 4 _ (k0_off9_eq L)) (k0_off9_eq L) _) $$ Ho4
  ihave Ht4 := (lend m d L (k0_off10 (word m d (rowOf L 4))) (row_inb (hpre d (rowOf L 4))) (qt 4)) $$ Ht4
  icases Ht4 with ⟨Ht4, Hr4⟩
  ihave Ho5 := (pts_oS d L 5 _ (inb_oS L 5 _ (k0_off11_eq L)) (k0_off11_eq L) _) $$ Ho5
  ihave Ht5 := (lend m d L (k0_off12 (word m d (rowOf L 5))) (row_inb (hpre d (rowOf L 5))) (qt 5)) $$ Ht5
  icases Ht5 with ⟨Ht5, Hr5⟩
  ihave Ho6 := (pts_oS d L 6 _ (inb_oS L 6 _ (k0_off13_eq L)) (k0_off13_eq L) _) $$ Ho6
  ihave Ht6 := (lend m d L (k0_off14 (word m d (rowOf L 6))) (row_inb (hpre d (rowOf L 6))) (qt 6)) $$ Ht6
  icases Ht6 with ⟨Ht6, Hr6⟩
  ihave Ho7 := (pts_oS d L 7 _ (inb_oS L 7 _ (k0_off15_eq L)) (k0_off15_eq L) _) $$ Ho7
  ihave Ht7 := (lend m d L (k0_off16 (word m d (rowOf L 7))) (row_inb (hpre d (rowOf L 7))) (qt 7)) $$ Ht7
  icases Ht7 with ⟨Ht7, Hr7⟩
  imod (Transfers.batch_alloc' (Lvl := ℕ) (countersEmb (U := UU)) (V d (cV L) (jV L)) (default : HIx 1)
    ((oS (k0_off1 L) (inb_oS L 0 _ (k0_off1_eq L))).view.amount (SemLoc.dma (sig := sig) cc0_scratch1.sem))
    (two (del m d L (k0_off1 L) (inb_oS L 0 _ (k0_off1_eq L)) (k0_off2 (word m d (rowOf L 0))) (row_inb (hpre d (rowOf L 0))) (qt 0)) (del m d L (k0_off9 L) (inb_oS L 4 _ (k0_off9_eq L)) (k0_off10 (word m d (rowOf L 4))) (row_inb (hpre d (rowOf L 4))) (qt 4)))
    (sm := .dma cc0_scratch1.sem) (E := Set.univ)) $$ Hsem1 with HB0
  imod (Transfers.batch_alloc' (Lvl := ℕ) (countersEmb (U := UU)) (V d (cV L) (jV L)) (default : HIx 1)
    ((oS (k0_off1 L) (inb_oS L 0 _ (k0_off1_eq L))).view.amount (SemLoc.dma (sig := sig) cc0_scratch2.sem))
    (two (del m d L (k0_off3 L) (inb_oS L 1 _ (k0_off3_eq L)) (k0_off4 (word m d (rowOf L 1))) (row_inb (hpre d (rowOf L 1))) (qt 1)) (del m d L (k0_off11 L) (inb_oS L 5 _ (k0_off11_eq L)) (k0_off12 (word m d (rowOf L 5))) (row_inb (hpre d (rowOf L 5))) (qt 5)))
    (sm := .dma cc0_scratch2.sem) (E := Set.univ)) $$ Hsem2 with HB1
  imod (Transfers.batch_alloc' (Lvl := ℕ) (countersEmb (U := UU)) (V d (cV L) (jV L)) (default : HIx 1)
    ((oS (k0_off1 L) (inb_oS L 0 _ (k0_off1_eq L))).view.amount (SemLoc.dma (sig := sig) cc0_scratch3.sem))
    (two (del m d L (k0_off5 L) (inb_oS L 2 _ (k0_off5_eq L)) (k0_off6 (word m d (rowOf L 2))) (row_inb (hpre d (rowOf L 2))) (qt 2)) (del m d L (k0_off13 L) (inb_oS L 6 _ (k0_off13_eq L)) (k0_off14 (word m d (rowOf L 6))) (row_inb (hpre d (rowOf L 6))) (qt 6)))
    (sm := .dma cc0_scratch3.sem) (E := Set.univ)) $$ Hsem3 with HB2
  imod (Transfers.batch_alloc' (Lvl := ℕ) (countersEmb (U := UU)) (V d (cV L) (jV L)) (default : HIx 1)
    ((oS (k0_off1 L) (inb_oS L 0 _ (k0_off1_eq L))).view.amount (SemLoc.dma (sig := sig) cc0_scratch4.sem))
    (two (del m d L (k0_off7 L) (inb_oS L 3 _ (k0_off7_eq L)) (k0_off8 (word m d (rowOf L 3))) (row_inb (hpre d (rowOf L 3))) (qt 3)) (del m d L (k0_off15 L) (inb_oS L 7 _ (k0_off15_eq L)) (k0_off16 (word m d (rowOf L 7))) (row_inb (hpre d (rowOf L 7))) (qt 7)))
    (sm := .dma cc0_scratch4.sem) (E := Set.univ)) $$ Hsem4 with HB3
  iapply (tile_run m d L hpre O W hO q qt fs) $$ [Hk Hs Ht0 Ho0 Ht1 Ho1 Ht2 Ho2 Ht3 Ho3 Ht4 Ho4 Ht5 Ho5 Ht6 Ho6 Ht7 Ho7 HB0 HB1 HB2 HB3 Hsem0 HO]
  · isplitr; · iexact Hlv
    isplitl [Hk]; · iexact Hk
    isplitl [Hs]; · iexact Hs
    isplitl [Ht0 Ho0 Ht1 Ho1 Ht2 Ho2 Ht3 Ho3 Ht4 Ho4 Ht5 Ho5 Ht6 Ho6 Ht7 Ho7]
    · isplitl [Ht0]; · iexact Ht0
      isplitl [Ho0]; · iexact Ho0
      isplitl [Ht1]; · iexact Ht1
      isplitl [Ho1]; · iexact Ho1
      isplitl [Ht2]; · iexact Ht2
      isplitl [Ho2]; · iexact Ho2
      isplitl [Ht3]; · iexact Ht3
      isplitl [Ho3]; · iexact Ho3
      isplitl [Ht4]; · iexact Ht4
      isplitl [Ho4]; · iexact Ho4
      isplitl [Ht5]; · iexact Ht5
      isplitl [Ho5]; · iexact Ho5
      isplitl [Ht6]; · iexact Ht6
      isplitl [Ho6]; · iexact Ho6
      isplitl [Ht7]; · iexact Ht7
      iexact Ho7
    isplitl [HB0 HB1 HB2 HB3]
    · isplitl [HB0]; · iexact HB0
      isplitl [HB1]; · iexact HB1
      isplitl [HB2]; · iexact HB2
      iexact HB3
    isplitl [Hsem0]; · iexact Hsem0
    iexact HO
  iintro %W' %hW' HO Hk Hs Hd0 Hd1 Hd2 Hd3 Hd4 Hd5 Hd6 Hd7 Hsem1 Hsem2 Hsem3 Hsem4 Hsem0
  ihave Hd0 := (take m d L 0 _ (inb_oS L 0 _ (k0_off1_eq L)) (k0_off1_eq L) hpre (k0_off2 (word m d (rowOf L 0))) (row_inb (hpre d (rowOf L 0))) rfl (qt 0)) $$ [Hd0 Hr0]
  · isplitl [Hd0] <;> iassumption
  icases Hd0 with ⟨Ht0, Ho0⟩
  ihave Hd1 := (take m d L 1 _ (inb_oS L 1 _ (k0_off3_eq L)) (k0_off3_eq L) hpre (k0_off4 (word m d (rowOf L 1))) (row_inb (hpre d (rowOf L 1))) rfl (qt 1)) $$ [Hd1 Hr1]
  · isplitl [Hd1] <;> iassumption
  icases Hd1 with ⟨Ht1, Ho1⟩
  ihave Hd2 := (take m d L 2 _ (inb_oS L 2 _ (k0_off5_eq L)) (k0_off5_eq L) hpre (k0_off6 (word m d (rowOf L 2))) (row_inb (hpre d (rowOf L 2))) rfl (qt 2)) $$ [Hd2 Hr2]
  · isplitl [Hd2] <;> iassumption
  icases Hd2 with ⟨Ht2, Ho2⟩
  ihave Hd3 := (take m d L 3 _ (inb_oS L 3 _ (k0_off7_eq L)) (k0_off7_eq L) hpre (k0_off8 (word m d (rowOf L 3))) (row_inb (hpre d (rowOf L 3))) rfl (qt 3)) $$ [Hd3 Hr3]
  · isplitl [Hd3] <;> iassumption
  icases Hd3 with ⟨Ht3, Ho3⟩
  ihave Hd4 := (take m d L 4 _ (inb_oS L 4 _ (k0_off9_eq L)) (k0_off9_eq L) hpre (k0_off10 (word m d (rowOf L 4))) (row_inb (hpre d (rowOf L 4))) rfl (qt 4)) $$ [Hd4 Hr4]
  · isplitl [Hd4] <;> iassumption
  icases Hd4 with ⟨Ht4, Ho4⟩
  ihave Hd5 := (take m d L 5 _ (inb_oS L 5 _ (k0_off11_eq L)) (k0_off11_eq L) hpre (k0_off12 (word m d (rowOf L 5))) (row_inb (hpre d (rowOf L 5))) rfl (qt 5)) $$ [Hd5 Hr5]
  · isplitl [Hd5] <;> iassumption
  icases Hd5 with ⟨Ht5, Ho5⟩
  ihave Hd6 := (take m d L 6 _ (inb_oS L 6 _ (k0_off13_eq L)) (k0_off13_eq L) hpre (k0_off14 (word m d (rowOf L 6))) (row_inb (hpre d (rowOf L 6))) rfl (qt 6)) $$ [Hd6 Hr6]
  · isplitl [Hd6] <;> iassumption
  icases Hd6 with ⟨Ht6, Ho6⟩
  ihave Hd7 := (take m d L 7 _ (inb_oS L 7 _ (k0_off15_eq L)) (k0_off15_eq L) hpre (k0_off16 (word m d (rowOf L 7))) (row_inb (hpre d (rowOf L 7))) rfl (qt 7)) $$ [Hd7 Hr7]
  · isplitl [Hd7] <;> iassumption
  icases Hd7 with ⟨Ht7, Ho7⟩
  isplitl [Hk Ht0 Ho0 Ht1 Ho1 Ht2 Ho2 Ht3 Ho3 Ht4 Ho4 Ht5 Ho5 Ht6 Ho6 Ht7 Ho7]
  · isplitl [Hk]; · iexact Hk
    isplitl [Ht0 Ht1 Ht2 Ht3 Ht4 Ht5 Ht6 Ht7]
    · isplitl [Ht0]; · iexact Ht0
      isplitl [Ht1]; · iexact Ht1
      isplitl [Ht2]; · iexact Ht2
      isplitl [Ht3]; · iexact Ht3
      isplitl [Ht4]; · iexact Ht4
      isplitl [Ht5]; · iexact Ht5
      isplitl [Ht6]; · iexact Ht6
      iexact Ht7
    · isplitl [Ho0]; · iexact Ho0
      isplitl [Ho1]; · iexact Ho1
      isplitl [Ho2]; · iexact Ho2
      isplitl [Ho3]; · iexact Ho3
      isplitl [Ho4]; · iexact Ho4
      isplitl [Ho5]; · iexact Ho5
      isplitl [Ho6]; · iexact Ho6
      iexact Ho7
  isplitl [Hs Hbufs]
  · isplitl [Hs]; · iexact Hs
    iexact Hbufs
  isplitl [Hsem1 Hsem2 Hsem3 Hsem4 Hsem0 Hsems]
  · isplitl [Hsem1]; · iexact Hsem1
    isplitl [Hsem2]; · iexact Hsem2
    isplitl [Hsem3]; · iexact Hsem3
    isplitl [Hsem4]; · iexact Hsem4
    isplitl [Hsem0]; · iexact Hsem0
    iexact Hsems
  iexists W'; isplitr
  · ipureintro; exact hW'
  · iexact HO

end Cert.Proof.Gather
-- ==== Proof.Launch.lean ====
/-
  The launch: the arrays split over the tasks and joined again, the host's operations around the call, and the run of the
  whole program, for any float values: the result holds the gathered rows, the arguments are kept, every semaphore is at
  zero (`run_main`).
-/
module

public import proofs.«01_k».proof.Proof.Task

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic

variable {F : FTy → Type}

variable {F : FTy → Type}

local notation "𝕄" => MT nD τ sig (HIx 1) (Elt F) ℕ UU ℕ
local notation "tV" => (Memref.whole Cert.KernelIdeal.main_v0_scv : Memref Cert.KernelIdeal.sig Kind.scVector Space.hbm Cert.KernelIdeal.S64x65536 EltTy.f32)
local notation "kV" => (Memref.whole Cert.KernelIdeal.main_arg2_scv : Memref Cert.KernelIdeal.sig Kind.scVector Space.hbm Cert.KernelIdeal.S4x64 EltTy.i32)
local notation "oV" => (Memref.whole Cert.KernelIdeal.main_v1_scv : Memref Cert.KernelIdeal.sig Kind.scVector Space.hbm Cert.KernelIdeal.S256x65536 EltTy.f32)
local notation "sV" => (Memref.whole Cert.KernelIdeal.cc0_scratch0 : Memref Cert.KernelIdeal.sig Kind.scVector Space.vmem Cert.KernelIdeal.S4x64 EltTy.i32)

variable (m : (ℓ : Loc nD τ sig) → Buf (Elt F) ℓ) (ρ : Dev nD → PrngReg)

/-! ## The split over the tasks -/

def coordsV (c : Fin (grid0.bound 0)) (s : Fin (grid0.bound 1)) : grid0.Coords :=
  fun | 0 => c | 1 => s | ⟨_ + 2, h⟩ => absurd h (Nat.not_lt.2 (Nat.le_add_left _ _))

/-- The shares: a core's, a task's, a copy's. -/
def cq (c : Fin 2) : PosShare TreeShare := Transfers.dealOf fullShare Finset.univ c
def kq (c : Fin 2) (i : Fin 16) : PosShare TreeShare := Transfers.dealOf (cq c) Finset.univ i
def tq (c : Fin 2) (i : Fin 16) (j : Fin 8) : PosShare TreeShare := Transfers.dealOf (kq c i) Finset.univ j

/-- A core's part: its shares and its tasks' rows. -/
abbrev part (d : Dev nD) (c : Fin 2) (f : Buf (Elt F) (oLoc d)) : sProp 𝕄 :=
  iprop(kPts m d (cq c) ∗ tPts m d (cq c) ∗ bigSep Finset.univ fun i : Fin 16 => bigSep Finset.univ fun j : Fin 8 => rowPts d (rowOf (coordsV c i) j) f)

theorem rows_split (d : Dev nD) (f : Buf (Elt F) (oLoc d)) :
    (oLoc d ↦{fullShare} f : sProp 𝕄)
      = bigSep Finset.univ fun c : Fin 2 => bigSep Finset.univ fun i : Fin 16 => bigSep Finset.univ fun j : Fin 8 => rowPts d (rowOf (coordsV c i) j) f := by
  have hd : ∀ p ∈ (Finset.univ : Finset (Fin 2 × Fin 16 × Fin 8)), ∀ p' ∈ (Finset.univ : Finset (Fin 2 × Fin 16 × Fin 8)), p ≠ p' →
      Disjoint (rowSet (rowOf (coordsV p.1 p.2.1) p.2.2)) (rowSet (rowOf (coordsV p'.1 p'.2.1) p'.2.2)) := by
    rintro ⟨c, i, j⟩ - ⟨c', i', j'⟩ - h
    rw [Finset.disjoint_left]
    intro x hx hx'
    simp only [rowSet, Finset.mem_filter, Finset.mem_univ, true_and] at hx hx'
    have e : 16 * i.val + 8 * c.val + j.val = 16 * i'.val + 8 * c'.val + j'.val := hx.symm.trans hx'
    have e1 : c = c' := Fin.ext (by omega)
    have e2 : i = i' := Fin.ext (by omega)
    have e3 : j = j' := Fin.ext (by omega)
    exact h (by rw [e1, e2, e3])
  have hc : (Finset.univ : Finset (Fin 2 × Fin 16 × Fin 8)).biUnion (fun p => rowSet (rowOf (coordsV p.1 p.2.1) p.2.2)) = Finset.univ := by
    ext x
    simp only [Finset.mem_biUnion, Finset.mem_univ, true_and, iff_true]
    have hx : (x 0).val < 256 := (x 0).isLt
    refine ⟨(⟨(x 0).val / 8 % 2, by omega⟩, ⟨(x 0).val / 16, by omega⟩, ⟨(x 0).val % 8, by omega⟩), ?_⟩
    simp only [rowSet, Finset.mem_filter, Finset.mem_univ, true_and]
    show (x 0).val = 16 * ((x 0).val / 16) + 8 * ((x 0).val / 8 % 2) + (x 0).val % 8
    omega
  refine Eq.trans ?_ ((bigSep_univ_prod fun p : Fin 2 × Fin 16 × Fin 8 => rowPts d (rowOf (coordsV p.1 p.2.1) p.2.2) f).trans
    (bigSep_congr fun c _ => bigSep_univ_prod fun p : Fin 16 × Fin 8 => rowPts d (rowOf (coordsV c p.1) p.2) f))
  rw [← pointsTo_biUnion (q := fullShare) (f := f) Finset.univ (ℓ := oLoc d)
    (fun p : Fin 2 × Fin 16 × Fin 8 => rowSet (rowOf (coordsV p.1 p.2.1) p.2.2)) hd, hc]

theorem part_split (d : Dev nD) (c : Fin 2) (f : Buf (Elt F) (oLoc d)) :
    part m d c f = bigSep Finset.univ fun i : Fin 16 => hand m d (coordsV c i) (kq c i) (tq c i) f := by
  have hk : kPts m d (cq c) = bigSep Finset.univ fun i : Fin 16 => kPts m d (kq c i) :=
    Transfers.pointsTo_deal Finset.univ Finset.univ_nonempty (cq c)
  have ht : tPts m d (cq c) = bigSep Finset.univ fun i : Fin 16 => bigSep Finset.univ fun j : Fin 8 => tPts m d (tq c i j) :=
    (Transfers.pointsTo_deal Finset.univ Finset.univ_nonempty (cq c)).trans
      (bigSep_congr fun i _ => Transfers.pointsTo_deal Finset.univ Finset.univ_nonempty (kq c i))
  unfold part
  rw [hk, ht, ← bigSep_sep', ← bigSep_sep']

theorem whole_split (d : Dev nD) (f : Buf (Elt F) (oLoc d)) :
    (iprop(kPts m d fullShare ∗ tPts m d fullShare ∗ oLoc d ↦{fullShare} f) : sProp 𝕄) = bigSep Finset.univ fun c : Fin 2 => part m d c f := by
  have hk : kPts m d fullShare = bigSep Finset.univ fun c : Fin 2 => kPts m d (cq c) :=
    Transfers.pointsTo_deal Finset.univ Finset.univ_nonempty fullShare
  have ht : tPts m d fullShare = bigSep Finset.univ fun c : Fin 2 => tPts m d (cq c) :=
    Transfers.pointsTo_deal Finset.univ Finset.univ_nonempty fullShare
  rw [hk, ht, rows_split, ← bigSep_sep', ← bigSep_sep']

/-- The one call: each core takes its part, each task its hand, and the rows come back gathered. -/
def P : (K (F := F)).Pay (nD := nD) (Val := Elt F) (Name := ℕ) (U := UU) where
  st := fun q d c => match q with | 0 => part m d (Fin.cast nCore_zero c) (m (oLoc d))
  dn := fun q d c => match q with | 0 => part m d (Fin.cast nCore_zero c) (out m d)
  go := fun q d c i => match q with
    | 0 => hand m d (coordsV (Fin.cast nCore_zero c) (Fin.cast nSub_zero i)) (kq (Fin.cast nCore_zero c) (Fin.cast nSub_zero i)) (tq (Fin.cast nCore_zero c) (Fin.cast nSub_zero i)) (m (oLoc d))
  td := fun q d c i => match q with
    | 0 => hand m d (coordsV (Fin.cast nCore_zero c) (Fin.cast nSub_zero i)) (kq (Fin.cast nCore_zero c) (Fin.cast nSub_zero i)) (tq (Fin.cast nCore_zero c) (Fin.cast nSub_zero i)) (out m d)
  x := fun _ _ => iprop(emp)

instance P_storable : (P (F := F) m).IsStorable where
  st q d c := match q with
    | 0 => (inferInstance : BI.Storable (upEmb : UEmb _ 𝕄) (part m d (Fin.cast nCore_zero c) (m (oLoc d))))
  dn q d c := match q with
    | 0 => (inferInstance : BI.Storable (upEmb : UEmb _ 𝕄) (part m d (Fin.cast nCore_zero c) (out m d)))
  go q d c i := match q with
    | 0 => (inferInstance : BI.Storable (upEmb : UEmb _ 𝕄)
      (hand m d (coordsV (Fin.cast nCore_zero c) (Fin.cast nSub_zero i)) (kq (Fin.cast nCore_zero c) (Fin.cast nSub_zero i)) (tq (Fin.cast nCore_zero c) (Fin.cast nSub_zero i)) (m (oLoc d))))
  td q d c i := match q with
    | 0 => (inferInstance : BI.Storable (upEmb : UEmb _ 𝕄)
      (hand m d (coordsV (Fin.cast nCore_zero c) (Fin.cast nSub_zero i)) (kq (Fin.cast nCore_zero c) (Fin.cast nSub_zero i)) (tq (Fin.cast nCore_zero c) (Fin.cast nSub_zero i)) (out m d)))

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem vecSplit : (K (F := F)).VecSplit' (P m) 0 := by
  intro d c
  have e (f : Buf (Elt F) (oLoc d)) : (bigSep Finset.univ fun i : Fin ((K (F := F)).nSub 0) =>
      hand m d (coordsV (Fin.cast nCore_zero c) (Fin.cast nSub_zero i)) (kq (Fin.cast nCore_zero c) (Fin.cast nSub_zero i)) (tq (Fin.cast nCore_zero c) (Fin.cast nSub_zero i)) f)
        = part m d (Fin.cast nCore_zero c) f :=
    (bigSep_tasks (F := F) fun i => hand m d (coordsV (Fin.cast nCore_zero c) i) (kq (Fin.cast nCore_zero c) i) (tq (Fin.cast nCore_zero c) i) f).trans
      (part_split m d (Fin.cast nCore_zero c) f).symm
  show part m d (Fin.cast nCore_zero c) (m (oLoc d)) ⊢ |={Set.univ}=> iprop(
      (bigSep Finset.univ fun i : Fin ((K (F := F)).nSub 0) =>
        hand m d (coordsV (Fin.cast nCore_zero c) (Fin.cast nSub_zero i)) (kq (Fin.cast nCore_zero c) (Fin.cast nSub_zero i)) (tq (Fin.cast nCore_zero c) (Fin.cast nSub_zero i)) (m (oLoc d)))
      ∗ ((bigSep Finset.univ fun i : Fin ((K (F := F)).nSub 0) =>
        hand m d (coordsV (Fin.cast nCore_zero c) (Fin.cast nSub_zero i)) (kq (Fin.cast nCore_zero c) (Fin.cast nSub_zero i)) (tq (Fin.cast nCore_zero c) (Fin.cast nSub_zero i)) (out m d))
          -∗ part m d (Fin.cast nCore_zero c) (out m d)))
  rw [e, e]
  iintro H; imodintro
  isplitl [H]; · iexact H
  iintro H; iexact H

section Float
variable [FloatOps F]

/-! ## The tasks' obligation -/

theorem defs₀_vector (c : Fin τ.nSC) (s : Fin τ.nSub) :
    defs₀ (F := F) (.scVector c s) 0 ()
      = SparseCore.onTile hcore0 hsub0 (fun c s => cc0__row_gather (coordsV c s)
          tV (Memref.isWhole_whole _) kV (Memref.isWhole_whole _) oV (Memref.isWhole_whole _)
          sV (Memref.isWhole_whole _) cc0_scratch1 cc0_scratch2 cc0_scratch3 cc0_scratch4 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF hpre O W hO (kq (Fin.cast nCore_zero c) (Fin.cast nSub_zero i)) (tq (Fin.cast nCore_zero c) (Fin.cast nSub_zero i))).trans
    (wp_mono frame _ _ fun _ => obl_post)

/-! ## The launch element of the ghost state -/

omit [FloatOps F] in
theorem bigSep_emp' {I : Type} (s : Finset I) : (bigSep s fun _ => iprop(emp)) = (iprop(emp) : sProp 𝕄) := bigSep_emp_const s

def u₀ : UU := (initOf (K (F := F)).hsCells (K (F := F)).hsToks, 1)

omit [FloatOps F] in
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## The host's operations around the call -/

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev w0' : DevRef τ sig := Proc.devRef .tc (main_v0 : Ref sig .tc)
abbrev w1' : DevRef τ sig := Proc.devRef .tc (main_v1 : Ref sig .tc)
abbrev w2' : DevRef τ sig := Proc.devRef .tc (main_v2 : Ref sig .tc)
abbrev w3' : DevRef τ sig := Proc.devRef .tc (main_v3 : Ref sig .tc)

abbrev opTr : HloOp τ sig (Elt F) := StableHlo.unary main_arg0 main_v0 ((transpose S64x65536 [1, 0] · transposes_S65536x64_S64x65536_1_0) : (⟨S65536x64, .f32⟩ : BufTy).Contents (Elt F) → (⟨S64x65536, .f32⟩ : BufTy).Contents (Elt F))
abbrev opRe : HloOp τ sig (Elt F) := StableHlo.reshape main_v1 main_v2 (rfl : (.f32 : EltTy) = .f32) shapeCasts_S256x65536_S4x64x65536
abbrev opTs : HloOp τ sig (Elt F) := StableHlo.unary main_v2 main_v3 ((transpose S4x65536x64 [0, 2, 1] · transposes_S4x64x65536_S4x65536x64_0_2_1) : (⟨S4x64x65536, .f32⟩ : BufTy).Contents (Elt F) → (⟨S4x65536x64, .f32⟩ : BufTy).Contents (Elt F))

/-- The arrays the host's operations touch. -/
abbrev SA : Finset (DevRef τ sig) := {a0', w0'}
abbrev SB : Finset (DevRef τ sig) := {w1', w2', w3'}

abbrev pLoc (d : Dev nD) : Loc nD τ sig := (SparseCore.T d).loc main_arg1
abbrev reLoc (d : Dev nD) : Loc nD τ sig := (SparseCore.T d).loc main_v2
abbrev resLoc (d : Dev nD) : Loc nD τ sig := (SparseCore.T d).loc main_v3

/-- The result: the gathered rows, a matrix per row of the row numbers, transposed back. -/
def res (d : Dev nD) : Buf (Elt F) (resLoc d) :=
  (transpose S4x65536x64 [0, 2, 1] (shapeCast S4x64x65536 (out m d : (⟨S256x65536, .f32⟩ : BufTy).Contents (Elt F)) shapeCasts_S256x65536_S4x64x65536)
    transposes_S4x64x65536_S4x65536x64_0_2_1 : (⟨S4x65536x64, .f32⟩ : BufTy).Contents (Elt F))

omit [FloatOps F] in
theorem held_SA (d : Dev nD) (W : Valuation τ sig (Elt F)) :
    (held (T d) SA W : sProp 𝕄) = iprop((aLoc d ↦{fullShare} W a0') ∗ tLoc d ↦{fullShare} W w0') := by
  unfold held SA
  rw [SparseCore.bigSep_insert' (by decide), bigSep_singleton]
omit [FloatOps F] in
theorem held_SB (d : Dev nD) (W : Valuation τ sig (Elt F)) :
    (held (T d) SB W : sProp 𝕄) = iprop((oLoc d ↦{fullShare} W w1') ∗ (reLoc d ↦{fullShare} W w2') ∗ resLoc d ↦{fullShare} W w3') := by
  unfold held SB
  rw [SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄)
      = iprop((aLoc d ↦{fullShare} W main_arg0) ∗ (pLoc d ↦{fullShare} W main_arg1) ∗ (kLoc d ↦{fullShare} W main_arg2)
          ∗ (tLoc d ↦{fullShare} W main_v0) ∗ (oLoc d ↦{fullShare} W main_v1) ∗ (reLoc d ↦{fullShare} W main_v2) ∗ resLoc d ↦{fullShare} W main_v3) := by
  unfold unscopedBufs
  rw [show (Finset.univ.filter fun b : Ref sig .tc => ¬ b.isScoped) = {main_arg0, main_arg1, main_arg2, main_v0, main_v1, main_v2, main_v3} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The launch valuation, and the valuation after the call: the rows gathered. -/
def V0 (d : Dev nD) : Valuation τ sig (Elt F) := fun b => m (d, b)
def V1 (d : Dev nD) : Valuation τ sig (Elt F) := Function.update (V0 m d) w1' (out m d)

theorem V1_o (d : Dev nD) : V1 m d w1' = out m d := Function.update_self _ _ _
theorem V1_re (d : Dev nD) : V1 m d w2' = m (reLoc d) := Function.update_of_ne (show w2' ≠ w1' by decide) _ _
theorem V1_res (d : Dev nD) : V1 m d w3' = m (resLoc d) := Function.update_of_ne (show w3' ≠ w1' by decide) _ _

theorem held_tr (d : Dev nD) :
    (held (T d) SA ((opTr (F := F)).result (V0 m d)) : sProp 𝕄) = iprop((aLoc d ↦{fullShare} m (aLoc d)) ∗ tPts m d fullShare) := by
  rw [held_SA, (opTr (F := F)).result_of_not_mem _ (show a0' ∉ ({w0'} : Finset (DevRef τ sig)) by decide),
    show (opTr (F := F)).result (V0 m d) w0' = tr m d from StableHlo.unary_result _ _ _ _ _ _]
  rfl

theorem held_res (d : Dev nD) :
    ∃ (g : Buf (Elt F) (oLoc d)) (h : Buf (Elt F) (reLoc d)), (held (T d) SB ((opTs (F := F)).result ((opRe (F := F)).result (V1 m d))) : sProp 𝕄)
      = iprop((oLoc d ↦{fullShare} g) ∗ (reLoc d ↦{fullShare} h) ∗ resLoc d ↦{fullShare} res m d) := by
  refine ⟨(opTs (F := F)).result ((opRe (F := F)).result (V1 m d)) w1', (opTs (F := F)).result ((opRe (F := F)).result (V1 m d)) w2', ?_⟩
  rw [held_SB, show (opTs (F := F)).result ((opRe (F := F)).result (V1 m d)) w3' = res m d from ?_]
  refine (StableHlo.unary_result _ _ _ _ _ _).trans ?_
  rw [show (opRe (F := F)).result (V1 m d) w2' = shapeCast S4x64x65536 (out m d : (⟨S256x65536, .f32⟩ : BufTy).Contents (Elt F)) shapeCasts_S256x65536_S4x64x65536 from
    (StableHlo.reshape_result _ _ _ _ _ _ _).trans (by rw [V1_o]; rfl)]
  rfl

theorem hTr : (opTr (F := F)).bufs ⊆ SA := show ({a0', w0'} : Finset (DevRef τ sig)) ⊆ SA by decide
theorem hRe : (opRe (F := F)).bufs ⊆ SB := show ({w1', w2'} : Finset (DevRef τ sig)) ⊆ SB by decide
theorem hTs : (opTs (F := F)).bufs ⊆ SB := show ({w2', w3'} : Finset (DevRef τ sig)) ⊆ SB by decide

theorem st0_eq (d : Dev nD) : (bigSep Finset.univ fun c : Fin ((K (F := F)).nCore 0) => (P m).st 0 d c)
    = iprop(kPts m d fullShare ∗ tPts m d fullShare ∗ oLoc d ↦{fullShare} m (oLoc d)) :=
  (bigSep_cores (F := F) fun c => part m d c (m (oLoc d))).trans (whole_split m d _).symm
theorem dn0_eq (d : Dev nD) : (bigSep Finset.univ fun c : Fin ((K (F := F)).nCore 0) => (P m).dn 0 d c)
    = iprop(kPts m d fullShare ∗ tPts m d fullShare ∗ oLoc d ↦{fullShare} out m d) :=
  (bigSep_cores (F := F) fun c => part m d c (out m d)).trans (whole_split m d _).symm

/-- What the host leaves: the arguments as at the launch, the result. -/
abbrev FIN (d : Dev nD) : sProp 𝕄 :=
  iprop((aLoc d ↦{fullShare} m (aLoc d)) ∗ (pLoc d ↦{fullShare} m (pLoc d)) ∗ kPts m d fullShare ∗ resLoc d ↦{fullShare} res m d)

/-- The host on device `d`: the transposition, the call, the reshape, the transposition back. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Ha, Hp, Hk, Ht, Ho, Hre, Hres⟩, Hts, -⟩, -⟩
  iapply (wp_hlo_within 𝒱 (SparseCore.T d) none Set.univ (op := opTr) (S := SA) hTr (V := V0 m d)) $$ [Hb Ha Ht]
  · isplitl [Hb]; · iexact Hb
    rw [held_SA]
    isplitl [Ha]; · iexact Ha
    iexact Ht
  iintro ⟨Hb, Hheld⟩
  rw [wp_ret]; imodintro
  ihave Hh := (Entails.of_eq (held_tr (F := F) m d)) $$ Hheld
  icases Hh with ⟨Ha, Ht⟩
  iapply ((K (F := F)).wp_run (D (F := F)) 𝒱 (EH := EH) (P := P m) κ d 0) $$ [Hst Hk Ht Ho Hb Ha Hp Hre Hres Hts]
  isplitr; · iexact Hctx
  isplitl [Hst]; · iexact Hst
  isplitl [Hk Ht Ho]
  · rw [st0_eq]
    isplitl [Hk]; · iexact Hk
    isplitl [Ht]; · iexact Ht
    iexact Ho
  iintro ⟨Hst, Hdn⟩
  ihave Hdn' := (Entails.of_eq (dn0_eq m d)) $$ Hdn
  icases Hdn' with ⟨Hk, -, Ho⟩
  iapply (wp_hlo_within 𝒱 (SparseCore.T d) none Set.univ (op := opRe) (S := SB) hRe (V := V1 m d)) $$ [Hb Ho Hre Hres]
  · isplitl [Hb]; · iexact Hb
    rw [held_SB, V1_o, V1_re, V1_res]
    isplitl [Ho]; · iexact Ho
    isplitl [Hre]; · iexact Hre
    iexact Hres
  iintro ⟨Hb, Hheld⟩
  rw [wp_ret]; imodintro
  iapply (wp_hlo_within 𝒱 (SparseCore.T d) none Set.univ (op := opTs) (S := SB) hTs (V := (opRe (F := F)).result (V1 m d))) $$ [Hb Hheld]
  · isplitl [Hb] <;> iassumption
  iintro ⟨Hb, Hheld⟩
  obtain ⟨g, h, e⟩ := held_res (F := F) m d
  ihave Hh := (Entails.of_eq e) $$ Hheld
  icases Hh with ⟨-, -, Hres⟩
  rw [wp_ret]; imodintro; imodintro
  isplitl [Hst]; · iexact Hst
  isplitr [Hb Hts]
  · isplitl [Ha]; · iexact Ha
    isplitl [Hp]; · iexact Hp
    isplitl [Hk]; · iexact Hk
    iexact Hres
  isplitl [Hb] <;> iassumption

/-! ## The run -/

/-- What the claims read of device `d`'s final state. -/
def fq (d : Dev nD) (s' : Phys nD τ sig (Elt F)) : Prop :=
  s'.mem.mem (resLoc d) = res m d ∧ s'.mem.mem (aLoc d) = m (aLoc d) ∧ s'.mem.mem (pLoc d) = m (pLoc d) ∧ s'.mem.mem (kLoc d) = m (kLoc d)

set_option maxRecDepth 16384 in
theorem hfin (d : Dev nD) (s' : Phys nD τ sig (Elt F)) : iprop(FIN m d ∗ SI s') ⊢ (⌜fq m d s'⌝ : sProp 𝕄) := by
  iintro ⟨⟨Ha, Hp, Hk, Hr⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := pLoc d) (I := Finset.univ) (q := fullShare) (f := m (pLoc d)))) $$ [HSI Hp]
  · isplitl [HSI] <;> iassumption
  icases H with ⟨%h2, HSI, -⟩
  ihave H := (persistent_entails_right (SI_pointsTo_agree (st := s') (ℓ := kLoc d) (I := Finset.univ) (q := fullShare) (f := m (kLoc d)))) $$ [HSI Hk]
  · isplitl [HSI] <;> iassumption
  icases H with ⟨%h3, HSI, -⟩
  ihave H := (SI_pointsTo_agree (st := s') (ℓ := resLoc d) (I := Finset.univ) (q := fullShare) (f := res m d)) $$ [HSI Hr]
  · isplitl [HSI] <;> iassumption
  icases H with %h4
  ipureintro
  exact ⟨funext fun i => h4 i (Finset.mem_univ i), funext fun i => h1 i (Finset.mem_univ i), funext fun i => h2 i (Finset.mem_univ i), funext fun i => h3 i (Finset.mem_univ i)⟩

def QC : PUnit × MemSt nD τ sig (Elt F) → Prop := fun r =>
  (∀ c : Dev nD, r.2.mem (resLoc c) = res m c ∧ r.2.mem (aLoc c) = m (aLoc c) ∧ r.2.mem (pLoc c) = m (pLoc c) ∧ r.2.mem (kLoc c) = m (kLoc c))
    ∧ r.2.sem = fun _ => 0

/-- The whole program's run. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Float

end Cert.Proof.Gather
-- ==== Proof.Ref.lean ====
/-
  The reference: its result under the precondition is the gathered columns, and so is the program's.
-/
module

public import proofs.«01_k».proof.Proof.Launch
public import proofs.«01_k».proof.Proof.Gen.ReferenceIdeal
public import proofs.«01_k».proof.Proof.Gen.ReferenceIdeal.Run
public import proofs.«01_k».proof.Proof.Gen.Pre_in_range
public import Idealize.ShloMosaic.Lib.Pointwise
public import Idealize.ShloMosaic.Lib.ReduceAll
public import Idealize.ShloMosaic.Lib.Tactic.CleanTypes

@[expose] public section

noncomputable section

namespace Cert.Proof.Gather.Ref

open Cert.ReferenceIdeal Cert.ReferenceIdeal.Gen
open Idealize.ShloMosaic Idealize.ShloMosaic.TcCoe

variable {F : FTy → Type} [FloatOps F]

/-! ## One row of row numbers -/

/-- The start indices the reference gathers at: each row number, 64 added where it is negative. -/
abbrev start (w : IVec S64 32) : IVec S64x1 32 :=
  broadcastInDim S64x1 ![0] bcast_S64_S64x1_0 (select (cmpi .slt w (broadcastInDim S64 ![] bcast_S_S64 (constantI S_ 32 0#32)))
    (addi w (broadcastInDim S64 ![] bcast_S_S64 (constantI S_ 32 64#32))) w)

/-- Which of the start indices name a column. -/
abbrev inside (w : IVec S64 32) : IVec S64 1 :=
  Host.reduce IntOp.andi (andi (cmpi .sge (start w) (broadcastInDim S64x1 ![] bcast_S_S64x1 (constantI S_ 32 0#32)))
    (cmpi .sle (start w) (broadcastInDim S64x1 ![0, 1] bcast_S1x1_S64x1_0_1 (broadcastInDim S1x1 ![1] bcast_S1_S1x1_1 (constantI S1 32 63#32)))))
    (constantI S_ 1 1#1) reducesTo_S64x1_S64_d1 h_S_

/-- The reference's gather of the columns a row of row numbers names, the columns of a bad index filled with a NaN. -/
abbrev cols (A : FVec F S65536x64 .f32) (w : IVec S64 32) : FVec F S65536x64 .f32 :=
  select (broadcastInDim S65536x64 ![1] bcast_S64_S65536x64_1 (inside w)) (Host.gather gather_S65536x64_S64x1_S65536x64_0_1_n_n_1_1_655361 A (start w))
    (broadcastInDim S65536x64 ![] bcast_S_S65536x64 (constant S_ .f32 0x7FC00000#32))

/-- An element of a row of row numbers. -/
def at1 (t : Fin 64) : S64.Idx := fun | 0 => t
/-- An element of the matrix. -/
def at2 (n : Fin 65536) (t : Fin 64) : S65536x64.Idx := fun | 0 => n | 1 => t

/-- A row of row numbers, as a column, read at an index. -/
theorem bcast_col {α : Type} (f : S64.Idx → α) (x : S64x1.Idx) : broadcastInDim S64x1 ![0] bcast_S64_S64x1_0 f x = f (at1 (x 0)) := by
  show f _ = f _
  refine congrArg f (funext fun a => ?_)
  match a with
  | ⟨0, _⟩ => exact Fin.ext rfl

/-- A row of row numbers, copied into every row of a matrix, read at an index. -/
theorem bcast_row {α : Type} (f : S64.Idx → α) (n : Fin 65536) (t : Fin 64) :
    broadcastInDim S65536x64 ![1] bcast_S64_S65536x64_1 f (at2 n t) = f (at1 t) := by
  show f _ = f _
  refine congrArg f (funext fun a => ?_)
  match a with
  | ⟨0, _⟩ => exact Fin.ext rfl

/-- A word below 64 is the same number read signed or unsigned. -/
theorem toInt_of_lt {v : BitVec 32} (h : v.toNat < 64) : v.toInt = v.toNat := by
  rw [BitVec.toInt_eq_toNat_cond]; omega

/-- A row number in range is its own start index. -/
theorem start_apply (w : IVec S64 32) (x : S64x1.Idx) (hw : (w (at1 (x 0))).toNat < 64) : start w x = w (at1 (x 0)) := by
  unfold start
  rw [bcast_col]
  show Scalar.select (IntOp.cmpi .slt (w (at1 (x 0))) 0#32) (IntOp.addi (w (at1 (x 0))) 64#32) (w (at1 (x 0))) = _
  unfold Scalar.select
  refine if_neg fun h => ?_
  have h' := IntOp.cmpi_slt.mp h
  rw [toInt_of_lt hw] at h'
  have : (0#32 : BitVec 32).toInt = 0 := by decide
  omega

/-- Of row numbers in range each names a column. -/
theorem inside_apply (w : IVec S64 32) (hw : ∀ t, (w (at1 t)).toNat < 64) (x : S64.Idx) : inside w x = 1#1 := by
  refine Host.reduce_andi_one _ _ _ _ _ rfl fun i => ?_
  have h := hw (i 0)
  show IntOp.andi (IntOp.cmpi .sge (start w i) 0#32) (IntOp.cmpi .sle (start w i) 63#32) = 1#1
  rw [start_apply w i h]
  have h0 : (0#32 : BitVec 32).toInt = 0 := by decide
  have h1 : (63#32 : BitVec 32).toInt = 63 := by decide
  refine IntOp.andi_eq_one.mpr ⟨IntOp.cmpi_sge.mpr ?_, IntOp.cmpi_sle.mpr ?_⟩
  · rw [toInt_of_lt h, h0]; omega
  · rw [toInt_of_lt h, h1]; omega

/-- The start index of column `t`. -/
def atx (t : Fin 64) : S64x1.Idx := fun | 0 => t | 1 => (0 : Fin 1)

/-- The reference's gather. -/
abbrev G : GatherDims S65536x64 S64x1 S65536x64 := gather_S65536x64_S64x1_S65536x64_0_1_n_n_1_1_655361

/-- The gather reads, at `(n, t)`, column `idx t` of row `n`, the index bounded by the last column. -/
theorem gather_apply (A : S65536x64.Idx → F .f32) (idx : IVec S64x1 32) (n : Fin 65536) (t : Fin 64) :
    Host.gather G A idx (at2 n t) = A (at2 n ⟨min (idx (atx t)).toInt.toNat 63, by omega⟩) := by
  unfold Host.gather
  refine congrArg A (funext fun a => ?_)
  refine Fin.ext ?_
  show G.start (at2 n t) idx a + G.batchCoord (at2 n t) a + G.offCoord (at2 n t) a = _
  have h01 : a = (0 : Fin 2) ∨ a = (1 : Fin 2) := by
    match a with
    | ⟨0, _⟩ => exact Or.inl rfl
    | ⟨1, _⟩ => exact Or.inr rfl
  rw [GatherDims.batchCoord_eq_zero G _ _ List.not_mem_nil]
  rcases h01 with rfl | rfl
  · have hs : G.start (at2 n t) idx (0 : Fin 2) = 0 := by
      unfold GatherDims.start
      exact dif_neg (show (0 : Fin 2) ∉ ([1] : List (Fin 2)) by decide)
    rw [hs]
    show 0 + 0 + G.offCoord (at2 n t) (0 : Fin 2) = n.val
    rw [Nat.zero_add]
    rfl
  · rw [GatherDims.offCoord_eq_zero G _ _ (fun h => ((GatherDims.mem_sKept _ _).mp h).1 (List.mem_singleton.mpr rfl))]
    unfold GatherDims.start
    rw [dif_pos (show (1 : Fin 2) ∈ G.startIndexMap from List.mem_singleton.mpr rfl)]
    have hsi : G.siIdx (at2 n t) ⟨List.idxOf (1 : Fin 2) G.startIndexMap, List.idxOf_lt_length_iff.2 (List.mem_singleton.mpr rfl)⟩ = atx t := by
      funext b
      refine Fin.ext ?_
      match b with
      | ⟨0, _⟩ => rfl
      | ⟨1, _⟩ => rfl
    rw [hsi]
    rfl

/-- For row numbers in range the gather takes, at `(n, t)`, the column that number `t` names. -/
theorem cols_apply (A : FVec F S65536x64 .f32) (w : IVec S64 32) (hw : ∀ t, (w (at1 t)).toNat < 64) (n : Fin 65536) (t : Fin 64) :
    cols A w (at2 n t) = A (at2 n ⟨(w (at1 t)).toNat, hw t⟩) := by
  show Scalar.select (broadcastInDim S65536x64 ![1] bcast_S64_S65536x64_1 (inside w) (at2 n t)) (Host.gather _ A (start w) (at2 n t)) _ = _
  rw [bcast_row, inside_apply w hw]
  refine (if_pos rfl).trans ?_
  rw [gather_apply]
  refine congrArg (fun q => A (at2 n q)) (Fin.ext ?_)
  show min (start w _).toInt.toNat 63 = (w (at1 t)).toNat
  rw [start_apply w _ (hw t)]
  show min (w (at1 t)).toInt.toNat 63 = (w (at1 t)).toNat
  have := hw t
  rw [toInt_of_lt (hw t)]
  omega

/-! ## The four rows of row numbers, stacked -/

/-- An element of the result. -/
def at3 (k : Fin 4) (n : Fin 65536) (t : Fin 64) : S4x65536x64.Idx := fun | 0 => k | 1 => n | 2 => t

/-- An index of the result is its three coordinates. -/
theorem eq_at3 (j : S4x65536x64.Idx) : j = at3 (j 0) (j 1) (j 2) := by
  funext a
  match a with
  | 0 => rfl
  | 1 => rfl
  | 2 => rfl

/-- A matrix made a slab of one, read at an index. -/
theorem bcast_slab {α : Type} (f : S65536x64.Idx → α) (i : S1x65536x64.Idx) :
    broadcastInDim S1x65536x64 ![1, 2] bcast_S65536x64_S1x65536x64_1_2 f i = f (at2 (i 1) (i 2)) := by
  show f _ = f _
  refine congrArg f (funext fun a => ?_)
  match a with
  | ⟨0, _⟩ => exact Fin.ext rfl
  | ⟨1, _⟩ => exact Fin.ext rfl

/-- Four matrices stacked: the first coordinate names the matrix. -/
theorem stack_apply {α : Type} (f : Fin 4 → S65536x64.Idx → α)
    (h : Shape.Concatenates [S1x65536x64, S1x65536x64, S1x65536x64, S1x65536x64] S4x65536x64 0) (k : Fin 4) (n : Fin 65536) (t : Fin 64) :
    concatenate S4x65536x64 0 [⟨S1x65536x64, broadcastInDim S1x65536x64 ![1, 2] bcast_S65536x64_S1x65536x64_1_2 (f 0)⟩,
      ⟨S1x65536x64, broadcastInDim S1x65536x64 ![1, 2] bcast_S65536x64_S1x65536x64_1_2 (f 1)⟩,
      ⟨S1x65536x64, broadcastInDim S1x65536x64 ![1, 2] bcast_S65536x64_S1x65536x64_1_2 (f 2)⟩,
      ⟨S1x65536x64, broadcastInDim S1x65536x64 ![1, 2] bcast_S65536x64_S1x65536x64_1_2 (f 3)⟩] h (at3 k n t) = f k (at2 n t) := by
  refine (concatenate_ofFn_unit_apply' (N := 4) (s₁ := S1x65536x64) (t := S4x65536x64) 0
    (fun k => broadcastInDim S1x65536x64 ![1, 2] bcast_S65536x64_S1x65536x64_1_2 (f k)) h rfl (at3 k n t)).trans ?_
  rw [bcast_slab]
  refine congrArg (f k) (funext fun a => ?_)
  match a with
  | 0 => exact Fin.ext rfl
  | 1 => exact Fin.ext rfl

/-- Row `k` of the row numbers. -/
theorem row_apply (mk : S4x64.Idx → BitVec 32) (k : Fin 4) (hs : S4x64.Slices ![k.val, 0] S1x64) (h : S1x64.ShapeCasts S64) (t : Fin 64) :
    shapeCast S64 (extractStridedSlice S1x64 ![k.val, 0] mk hs) h (at1 t) = mk (at4x64 k t) := by
  rw [shapeCast_apply _ _ _ (fun | 0 => ⟨0, Nat.one_pos⟩ | 1 => t : S1x64.Idx)
    (by rw [Shape.rowMajor_val_two, Shape.rowMajor_val_one]; show 0 * 64 + t.val = t.val; omega)]
  show mk _ = mk _
  refine congrArg mk (funext fun a => ?_)
  match a with
  | 0 => exact Fin.ext (Nat.add_zero _)
  | 1 => exact Fin.ext (Nat.zero_add _)

/-- The reference's matrix. -/
abbrev aRef (d : Dev nD) : Loc nD τ sig := (d.tc : Thread nD τ).loc main_arg0
/-- The reference's row numbers. -/
abbrev kRef (d : Dev nD) : Loc nD τ sig := (d.tc : Thread nD τ).loc main_arg2

/-- The reference's result at `(k, n, t)`: in row `n` of the matrix, the column that place `(k, t)` of the row numbers names. -/
theorem result_apply (m : (ℓ : Loc nD τ sig) → Buf (Elt F) ℓ) (d : Dev nD) (hw : ∀ k t, (m (kRef d) (at4x64 k t) : BitVec 32).toNat < 64)
    (k : Fin 4) (n : Fin 65536) (t : Fin 64) :
    Value.res_main_v16 m d (at3 k n t) = m (aRef d) (at2 n ⟨(m (kRef d) (at4x64 k t) : BitVec 32).toNat, hw k t⟩) := by
  let rows : Fin 4 → IVec S64 32 := fun
    | 0 => shapeCast S64 (extractStridedSlice S1x64 ![0, 0] (m (kRef d)) slices_S4x64_S1x64_0_0) shapeCasts_S1x64_S64
    | 1 => shapeCast S64 (extractStridedSlice S1x64 ![1, 0] (m (kRef d)) slices_S4x64_S1x64_1_0) shapeCasts_S1x64_S64
    | 2 => shapeCast S64 (extractStridedSlice S1x64 ![2, 0] (m (kRef d)) slices_S4x64_S1x64_2_0) shapeCasts_S1x64_S64
    | 3 => shapeCast S64 (extractStridedSlice S1x64 ![3, 0] (m (kRef d)) slices_S4x64_S1x64_3_0) shapeCasts_S1x64_S64
  have hr : ∀ k t, rows k (at1 t) = m (kRef d) (at4x64 k t) := by
    intro k t
    match k with
    | 0 => exact row_apply (m (kRef d)) 0 _ _ t
    | 1 => exact row_apply (m (kRef d)) 1 _ _ t
    | 2 => exact row_apply (m (kRef d)) 2 _ _ t
    | 3 => exact row_apply (m (kRef d)) 3 _ _ t
  refine (stack_apply (fun k => cols (m (aRef d)) (rows k)) _ k n t).trans ?_
  rw [cols_apply _ _ (fun t => by rw [hr]; exact hw k t)]
  refine congrArg (fun q => m (aRef d) (at2 n q)) (Fin.ext ?_)
  exact congrArg BitVec.toNat (hr k t)

end Cert.Proof.Gather.Ref

namespace Cert.Proof.Gather

open Cert.KernelIdeal Cert.KernelIdeal.Gen
open Idealize.ShloMosaic Idealize.ShloMosaic.TcCoe

variable {F : FTy → Type} [FloatOps F]

/-- The program's result at `(k, n, t)`. -/
theorem res_apply (m : (ℓ : Loc nD τ sig) → Buf (Elt F) ℓ) (d : Dev nD) (k : Fin 4) (n : Fin 65536) (t : Fin 64) :
    res m d (Ref.at3 k n t)
      = m (aLoc d) (Ref.at2 n ⟨(m (kLoc d) (at4x64 k t) : BitVec 32).toNat % 64, Nat.mod_lt _ (by decide)⟩) := by
  have e : res m d (Ref.at3 k n t)
      = shapeCast S4x64x65536 (out m d : (⟨S256x65536, .f32⟩ : BufTy).Contents (Elt F)) shapeCasts_S256x65536_S4x64x65536
          (fun | 0 => k | 1 => t | 2 => n : S4x64x65536.Idx) := by
    show shapeCast S4x64x65536 _ _ _ = _
    refine congrArg _ (funext fun a => ?_)
    match a with
    | 0 => rfl
    | 1 => rfl
    | 2 => rfl
  rw [e, shapeCast_apply _ _ _ (fun | 0 => (⟨64 * k.val + t.val, by omega⟩ : Fin 256) | 1 => n : S256x65536.Idx)
    (by rw [Shape.rowMajor_val_two, Shape.rowMajor_val_three]; show (64 * k.val + t.val) * 65536 + n.val = (k.val * 64 + t.val) * 65536 + n.val; omega)]
  have hf : flat ⟨64 * k.val + t.val, by omega⟩ = at4x64 k t := by
    unfold flat
    congr 1
    · exact Fin.ext (by show (64 * k.val + t.val) / 64 = k.val; omega)
    · exact Fin.ext (by show (64 * k.val + t.val) % 64 = t.val; omega)
  show tr m d (at64 ⟨(m (kLoc d) (flat ⟨64 * k.val + t.val, _⟩) : BitVec 32).toNat % 64, _⟩ n) = _
  show m (aLoc d) _ = m (aLoc d) _
  refine congrArg (m (aLoc d)) (funext fun a => ?_)
  match a with
  | 0 => rfl
  | 1 => exact Fin.ext (congrArg (fun i => (m (kLoc d) i : BitVec 32).toNat % 64) hf)

/-! ## The precondition -/

/-- The precondition bounds every row number. -/
theorem words_lt [Cert.Pre_in_range.Facts] (a : FVec F Cert.Pre_in_range.S65536x64 .f32) (p : FVec F Cert.Pre_in_range.S4x64x1 .f32)
    (k : IVec Cert.Pre_in_range.S4x64 32) (h : Cert.Pre_in_range.fn (F := F) a p k = fun _ => 1#1) (i : S4x64.Idx) : (k i).toNat < 64 := by
  have hs : Subsingleton Cert.Pre_in_range.S_.Idx := ⟨fun _ _ => funext fun a => a.elim0⟩
  have e := Host.reduce_andi_all _ _ _ _ (fun a => a.elim0) (congrFun h _) i
  have e' : IntOp.andi (IntOp.cmpi .sge (k i) 0#32) (IntOp.cmpi .slt (k i) 64#32) = 1#1 := e
  obtain ⟨e1, e2⟩ := IntOp.andi_eq_one.mp e'
  have h1 := IntOp.cmpi_sge.mp e1
  have h2 := IntOp.cmpi_slt.mp e2
  rw [show (0#32 : BitVec 32).toInt = 0 by decide] at h1
  rw [show (64#32 : BitVec 32).toInt = 64 by decide] at h2
  rw [BitVec.toInt_eq_toNat_cond] at h1 h2
  have := (k i).isLt
  split at h1 <;> omega

/-- What the run asks of the row numbers, from a bound on each. -/
theorem preOK_of (m : (ℓ : Loc nD τ sig) → Buf (Elt F) ℓ) (h : ∀ d i, (m (kLoc d) i : BitVec 32).toNat < 64) : PreOK m :=
  fun d r => h d (flat r)

end Cert.Proof.Gather
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_in_range
public import proofs.«01_k».proof.Proof.Gen.ReferenceIdeal.Run
public import proofs.«01_k».proof.Proof.Launch
public import proofs.«01_k».proof.Proof.Ref
public import Idealize.ShloMosaic.Adequacy
public import Idealize.ShloMosaic.Init

@[expose] public section

noncomputable section

namespace Cert.Proof

open Idealize.ShloMosaic Idealize.SL.Sem Cert.Proof.Gather

/-- The kernel's frame. -/
theorem frame_kernel : Cert.quiescent_Kernel := fun m ρ hm =>
  (θ_run Cert.KernelIdeal.defs _ _).mono (fun _ h => ⟨fun c => (h.1 c).2, h.2⟩)
    (run_main (F := Bits) m ρ (preOK_of m fun d i => words_lt (F := Bits) _ _ _ (hm d) i))

/-- The same run read at the ideal instance. -/
theorem run_ideal (m : (ℓ : Loc Cert.KernelIdeal.nD Cert.KernelIdeal.τ Cert.KernelIdeal.sig) → Buf (Elt Ideal) ℓ) (ρ : Dev Cert.KernelIdeal.nD → PrngReg)
    (hm : Cert.Pre_KernelIdeal m) :
    θ_run (Cert.KernelIdeal.defs (F := Ideal)) (Cert.KernelIdeal.threads (F := Ideal)) ⟨m, fun _ => 0, ρ⟩ (QC m) :=
  run_main (F := Ideal) m ρ (preOK_of m fun d i => words_lt (F := Ideal) _ _ _ (hm d) i)

theorem frame_kernelIdeal : Cert.quiescent_KernelIdeal := fun m ρ hm =>
  (θ_run Cert.KernelIdeal.defs _ _).mono (fun _ h => ⟨fun c => (h.1 c).2, h.2⟩) (run_ideal m ρ hm)

/-- The reference has no semaphore: its counters end at zero. -/
theorem frame_reference : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- The two results are one array, from memories that agree on the arguments. -/
theorem results_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (hm : Cert.Pre_KernelIdeal m)
    (c : Dev Cert.KernelIdeal.nD) (h0 : m' (Ref.aRef c) = m (aLoc c)) (h2 : m' (Ref.kRef c) = m (kLoc c)) :
    Cert.ReferenceIdeal.Value.res_main_v16 (F := Ideal) m' c = res m c := by
  have hw : ∀ k t, (m (kLoc c) (at4x64 k t) : BitVec 32).toNat < 64 := fun k t => words_lt (F := Ideal) _ _ _ (hm c) (at4x64 k t)
  have hk : ∀ k t, (m' (Ref.kRef c) (at4x64 k t) : BitVec 32) = m (kLoc c) (at4x64 k t) := fun k t => congrFun h2 _
  funext j
  rw [Ref.eq_at3 j]
  refine (Ref.result_apply m' c (fun k t => by rw [hk]; exact hw k t) (j 0) (j 1) (j 2)).trans (Eq.trans ?_ (res_apply m c (j 0) (j 1) (j 2)).symm)
  refine (congrFun h0 _).trans (congrArg (fun q => m (aLoc c) (Ref.at2 (j 1) q)) (Fin.ext ?_))
  exact (congrArg BitVec.toNat (hk (j 0) (j 2))).trans (Nat.mod_eq_of_lt (hw (j 0) (j 2))).symm

theorem value : Cert.algebraic_KernelIdeal_ReferenceIdeal := fun m g m' g' hm ha =>
  ⟨fun c => res m c, fun c => m (pLoc c),
    (θ_run Cert.KernelIdeal.defs _ _).mono (fun _ h c => ⟨(h.1 c).1, (h.1 c).2.2.1, (h.1 c).2⟩) (run_ideal m g hm),
    (θ_run Cert.ReferenceIdeal.defs _ _).mono
      (fun _ h c => ⟨(h c).1.trans (results_eq m m' hm c (ha c).1 (ha c).2.2), (h c).2.1.trans (ha c).2.1, (h c).2.2⟩)
      (Cert.ReferenceIdeal.Value.run (F := Ideal) m' g')⟩

theorem claim : Cert.Claim := ⟨Cert.Kernel.Gen.facts, Cert.KernelIdeal.Gen.facts, Cert.ReferenceIdeal.Gen.facts, Cert.Pre_in_range.Gen.facts,
  frame_kernel, frame_kernelIdeal, frame_reference, fun m ρ _ => frame_reference m ρ trivial, trivial, value⟩

end Cert.Proof

end
